-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tie_at_rank_k [hPre_no_tie_at_rank_k : Cert.Pre_no_tie_at_rank_k.Facts] (m : (ℓ : Loc Cert.KernelIdeal.nD Cert.KernelIdeal.τ Cert.KernelIdeal.sig) → Buf (Elt Ideal) ℓ) : Prop :=
  ∀ c : Dev Cert.KernelIdeal.nD,
    (Cert.Pre_no_tie_at_rank_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_no_tie_at_rank_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tie_at_rank_k [hPre_no_tie_at_rank_k : Cert.Pre_no_tie_at_rank_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tie_at_rank_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_no_tie_at_rank_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_tie_at_rank_k [hKernelIdeal : Cert.KernelIdeal.Facts] [hPre_no_tie_at_rank_k : Cert.Pre_no_tie_at_rank_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tie_at_rank_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_tie_at_rank_k [hReferenceIdeal : Cert.ReferenceIdeal.Facts] [hPre_no_tie_at_rank_k : Cert.Pre_no_tie_at_rank_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tie_at_rank_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "scale" .f32 0x3C4CCCCD#32 ((1 / 80 : ℝ) : EReal)

def algebraic_KernelIdeal_ReferenceIdeal_pre_no_tie_at_rank_k [hKernelIdeal : Cert.KernelIdeal.Facts] [hReferenceIdeal : Cert.ReferenceIdeal.Facts] [hPre_no_tie_at_rank_k : Cert.Pre_no_tie_at_rank_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tie_at_rank_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_tie_at_rank_k : Cert.Pre_no_tie_at_rank_k.Facts),
    quiescent_Kernel (hKernel := hKernel)
    ∧ quiescent_KernelIdeal (hKernelIdeal := hKernelIdeal)
    ∧ quiescent_KernelIdeal_pre_no_tie_at_rank_k (hKernelIdeal := hKernelIdeal) (hPre_no_tie_at_rank_k := hPre_no_tie_at_rank_k)
    ∧ quiescent_ReferenceIdeal (hReferenceIdeal := hReferenceIdeal)
    ∧ quiescent_ReferenceIdeal_pre_no_tie_at_rank_k (hReferenceIdeal := hReferenceIdeal) (hPre_no_tie_at_rank_k := hPre_no_tie_at_rank_k)
    ∧ preserves_Kernel_KernelIdeal
    ∧ algebraic_KernelIdeal_ReferenceIdeal_pre_no_tie_at_rank_k (hKernelIdeal := hKernelIdeal) (hReferenceIdeal := hReferenceIdeal) (hPre_no_tie_at_rank_k := hPre_no_tie_at_rank_k)
-- ==== Pre_no_tie_at_rank_k.lean ====
abbrev S16x512x512 : Shape := ⟨3, ![16, 512, 512]⟩
abbrev S256x512 : Shape := ⟨2, ![256, 512]⟩
abbrev S256 : Shape := ⟨1, ![256]⟩
abbrev S3x256x256 : Shape := ⟨3, ![3, 256, 256]⟩
abbrev S512x256 : Shape := ⟨2, ![512, 256]⟩
abbrev S16x512x256 : Shape := ⟨3, ![16, 512, 256]⟩
abbrev S1x1x256 : Shape := ⟨3, ![1, 1, 256]⟩
abbrev S512x512 : Shape := ⟨2, ![512, 512]⟩
abbrev S_ : Shape := ⟨0, ![]⟩
abbrev S1x256x256 : Shape := ⟨3, ![1, 256, 256]⟩
abbrev S256x256 : Shape := ⟨2, ![256, 256]⟩
abbrev S16x256x512 : Shape := ⟨3, ![16, 256, 512]⟩
abbrev S1x512x512 : Shape := ⟨3, ![1, 512, 512]⟩
abbrev S16x512x17 : Shape := ⟨3, ![16, 512, 17]⟩
abbrev S16x512x1 : Shape := ⟨3, ![16, 512, 1]⟩
abbrev S16x512 : Shape := ⟨2, ![16, 512]⟩
abbrev S1x16x512 : Shape := ⟨3, ![1, 16, 512]⟩
abbrev S3x16x512 : Shape := ⟨3, ![3, 16, 512]⟩

class Facts : Prop where
  transposes_S256x512_S512x256_1_0 : S256x512.Transposes [1, 0] S512x256
  bcast_S256_S1x1x256_2 : S256.BroadcastsInDim S1x1x256 (![2] : Fin 1 → Fin S1x1x256.rank)
  bcast_S1x1x256_S16x512x256_0_1_2 : S1x1x256.BroadcastsInDim S16x512x256 (![0, 1, 2] : Fin 3 → Fin S16x512x256.rank)
  bcast_S_S512x512 : S_.BroadcastsInDim S512x512 (![] : Fin 0 → Fin S512x512.rank)
  slices_S3x256x256_S1x256x256_0_0_0 : S3x256x256.Slices ![0, 0, 0] S1x256x256
  shapeCasts_S1x256x256_S256x256 : S1x256x256.ShapeCasts S256x256
  transposes_S16x512x256_S16x256x512_0_2_1 : S16x512x256.Transposes [0, 2, 1] S16x256x512
  bcast_S_S16x512x512 : S_.BroadcastsInDim S16x512x512 (![] : Fin 0 → Fin S16x512x512.rank)
  bcast_S512x512_S1x512x512_1_2 : S512x512.BroadcastsInDim S1x512x512 (![1, 2] : Fin 2 → Fin S1x512x512.rank)
  bcast_S1x512x512_S16x512x512_0_1_2 : S1x512x512.BroadcastsInDim S16x512x512 (![0, 1, 2] : Fin 3 → Fin S16x512x512.rank)
  transposes_S16x512x512_S16x512x512_0_2_1 : S16x512x512.Transposes [0, 2, 1] S16x512x512
  sliceFits_S16x512x512_S16x512x17 : S16x512x512.Slices (fun _ => 0) S16x512x17
  slices_S16x512x17_S16x512x1_0_0_15 : S16x512x17.Slices ![0, 0, 15] S16x512x1
  shapeCasts_S16x512x1_S16x512 : S16x512x1.ShapeCasts S16x512
  slices_S16x512x17_S16x512x1_0_0_16 : S16x512x17.Slices ![0, 0, 16] S16x512x1
  bcast_S_S16x512 : S_.BroadcastsInDim S16x512 (![] : Fin 0 → Fin S16x512.rank)
  slices_S3x256x256_S1x256x256_1_0_0 : S3x256x256.Slices ![1, 0, 0] S1x256x256
  slices_S3x256x256_S1x256x256_2_0_0 : S3x256x256.Slices ![2, 0, 0] S1x256x256
  bcast_S_S3x256x256 : S_.BroadcastsInDim S3x256x256 (![] : Fin 0 → Fin S3x256x256.rank)
  bcast_S16x512_S1x16x512_1_2 : S16x512.BroadcastsInDim S1x16x512 (![1, 2] : Fin 2 → Fin S1x16x512.rank)
  concatenates_S1x16x512_S1x16x512_S1x16x512_S3x16x512_d0 : Shape.Concatenates [S1x16x512, S1x16x512, S1x16x512] S3x16x512 0
  dot_S16x512x512_S512x256_S16x512x256_2_0_01_1_n_n_wf : DotDims.WF S16x512x512 S512x256 S16x512x256 [2] [0] [0, 1] [1] [] []
  dot_S16x512x256_S256x256_S16x512x256_2_0_01_1_n_n_wf : DotDims.WF S16x512x256 S256x256 S16x512x256 [2] [0] [0, 1] [1] [] []
  dot_S16x512x256_S16x256x512_S16x512x512_2_1_1_2_0_0_wf : DotDims.WF S16x512x256 S16x256x512 S16x512x512 [2] [1] [1] [2] [0] [0]

variable [Facts]

def dot_S16x512x512_S512x256_S16x512x256_2_0_01_1_n_n : DotDims S16x512x512 S512x256 S16x512x256 where
  lhsContracting := [2]
  rhsContracting := [0]
  lhsNonContracting := [0, 1]
  rhsNonContracting := [1]
  lhsBatch := []
  rhsBatch := []
  wf := dot_S16x512x512_S512x256_S16x512x256_2_0_01_1_n_n_wf
def dot_S16x512x256_S256x256_S16x512x256_2_0_01_1_n_n : DotDims S16x512x256 S256x256 S16x512x256 where
  lhsContracting := [2]
  rhsContracting := [0]
  lhsNonContracting := [0, 1]
  rhsNonContracting := [1]
  lhsBatch := []
  rhsBatch := []
  wf := dot_S16x512x256_S256x256_S16x512x256_2_0_01_1_n_n_wf
def dot_S16x512x256_S16x256x512_S16x512x512_2_1_1_2_0_0 : DotDims S16x512x256 S16x256x512 S16x512x512 where
  lhsContracting := [2]
  rhsContracting := [1]
  lhsNonContracting := [1]
  rhsNonContracting := [2]
  lhsBatch := [0]
  rhsBatch := [0]
  wf := dot_S16x512x256_S16x256x512_S16x512x512_2_1_1_2_0_0_wf
def fn_relu {F : FTy → Type} [FloatOps F] (arg0 : FVec F S16x512x512 .f32) : FVec F S16x512x512 .f32 :=
  let cst : FVec F S_ .f32 := constant S_ .f32 0x00000000#32
  let v0 : FVec F S16x512x512 .f32 := broadcastInDim S16x512x512 ![] bcast_S_S16x512x512 cst
  let v1 : FVec F S16x512x512 .f32 := maximumf arg0 v0
  v1

def fn_part5 {F : FTy → Type} [FloatOps F] (main_arg3 : FVec F S3x256x256 .f32) (main_v34 : IVec S16x512 1) (main_v69 : IVec S16x512 1) (main_v98 : FVec F S16x512 .f32) (main_v101 : IVec S16x512 1) (main_cst_13 : FVec F S_ .f32) : IVec S3x256x256 1 × IVec S3x16x512 1 :=
  let main_v102 : FVec F S16x512 .f32 := broadcastInDim S16x512 ![] bcast_S_S16x512 main_cst_13
  let main_v103 : IVec S16x512 1 := cmpf .ole main_v98 main_v102
  let main_v104 : IVec S16x512 1 := ori main_v101 main_v103
  let main_v105 : FVec F S3x256x256 .f32 := Host.absf main_arg3
  let main_cst_14 : FVec F S_ .f32 := constant S_ .f32 0x7F800000#32
  let main_v106 : FVec F S3x256x256 .f32 := broadcastInDim S3x256x256 ![] bcast_S_S3x256x256 main_cst_14
  let main_v107 : IVec S3x256x256 1 := cmpf .olt main_v105 main_v106
  let main_v108 : IVec S1x16x512 1 := broadcastInDim S1x16x512 ![1, 2] bcast_S16x512_S1x16x512_1_2 main_v34
  let main_v109 : IVec S1x16x512 1 := broadcastInDim S1x16x512 ![1, 2] bcast_S16x512_S1x16x512_1_2 main_v69
  let main_v110 : IVec S1x16x512 1 := broadcastInDim S1x16x512 ![1, 2] bcast_S16x512_S1x16x512_1_2 main_v104
  let main_v111 : IVec S3x16x512 1 := concatenate S3x16x512 0 [⟨S1x16x512, main_v108⟩, ⟨S1x16x512, main_v109⟩, ⟨S1x16x512, main_v110⟩] concatenates_S1x16x512_S1x16x512_S1x16x512_S3x16x512_d0
  (main_v107, main_v111)

def fn_part4 {F : FTy → Type} [FloatOps F] (main_arg3 : FVec F S3x256x256 .f32) (main_v34 : IVec S16x512 1) (main_v69 : IVec S16x512 1) (main_v75 : FVec F S16x512x256 .f32) (main_v81 : FVec F S512x512 .f32) (main_v82 : FVec F S1x256x256 .f32) : IVec S3x256x256 1 × IVec S3x16x512 1 :=
  let main_v83 : FVec F S256x256 .f32 := shapeCast S256x256 main_v82 shapeCasts_S1x256x256_S256x256
  let main_v84 : FVec F S16x512x256 .f32 := (fun l r => Host.dotGeneral dot_S16x512x256_S256x256_S16x512x256_2_0_01_1_n_n none l r) main_v75 main_v83
  let main_v85 : FVec F S16x256x512 .f32 := (transpose S16x256x512 [0, 2, 1] · transposes_S16x512x256_S16x256x512_0_2_1) main_v75
  let main_v86 : FVec F S16x512x512 .f32 := (fun l r => Host.dotGeneral dot_S16x512x256_S16x256x512_S16x512x512_2_1_1_2_0_0 none l r) main_v84 main_v85
  let main_cst_9 : FVec F S_ .f32 := constant S_ .f32 0x41800000#32
  let main_v87 : FVec F S16x512x512 .f32 := broadcastInDim S16x512x512 ![] bcast_S_S16x512x512 main_cst_9
  let main_v88 : FVec F S16x512x512 .f32 := Host.divf main_v86 main_v87
  let main_cst_10 : FVec F S_ .f32 := constant S_ .f32 0x40A00000#32
  let main_v89 : FVec F S16x512x512 .f32 := broadcastInDim S16x512x512 ![] bcast_S_S16x512x512 main_cst_10
  let main_v90 : FVec F S16x512x512 .f32 := Host.divf main_v88 main_v89
  let main_v91 : FVec F S1x512x512 .f32 := broadcastInDim S1x512x512 ![1, 2] bcast_S512x512_S1x512x512_1_2 main_v81
  let main_v92 : FVec F S16x512x512 .f32 := broadcastInDim S16x512x512 ![0, 1, 2] bcast_S1x512x512_S16x512x512_0_1_2 main_v91
  let main_v93 : FVec F S16x512x512 .f32 := mulf main_v92 main_v90
  let main_v94 : FVec F S16x512x512 .f32 := subf main_v90 main_v93
  let main_v95 : FVec F S16x512x512 .f32 := fn_relu (F := F) main_v94
  let main_v96 : FVec F S16x512x512 .f32 := (transpose S16x512x512 [0, 2, 1] · transposes_S16x512x512_S16x512x512_0_2_1) main_v95
  let main_values_11 : FVec F S16x512x17 .f32 := (fun x => (Host.topK S16x512x17 2 (FloatOps.cmpfTotal .gt) x sliceFits_S16x512x512_S16x512x17).1) main_v96
  let main_indices_12 : IVec S16x512x17 32 := (fun x => (Host.topK S16x512x17 2 (FloatOps.cmpfTotal .gt) x sliceFits_S16x512x512_S16x512x17).2) main_v96
  let main_v97 : FVec F S16x512x1 .f32 := (extractStridedSlice S16x512x1 ![0, 0, 15] · slices_S16x512x17_S16x512x1_0_0_15) main_values_11
  let main_v98 : FVec F S16x512 .f32 := shapeCast S16x512 main_v97 shapeCasts_S16x512x1_S16x512
  let main_v99 : FVec F S16x512x1 .f32 := (extractStridedSlice S16x512x1 ![0, 0, 16] · slices_S16x512x17_S16x512x1_0_0_16) main_values_11
  let main_v100 : FVec F S16x512 .f32 := shapeCast S16x512 main_v99 shapeCasts_S16x512x1_S16x512
  let main_v101 : IVec S16x512 1 := cmpf .ogt main_v98 main_v100
  let main_cst_13 : FVec F S_ .f32 := constant S_ .f32 0x00000000#32
  fn_part5 (F := F) main_arg3 main_v34 main_v69 main_v98 main_v101 main_cst_13

def fn_part3 {F : FTy → Type} [FloatOps F] (main_arg0 : FVec F S16x512x512 .f32) (main_arg1 : FVec F S256x512 .f32) (main_arg2 : FVec F S256 .f32) (main_arg3 : FVec F S3x256x256 .f32) (main_v34 : IVec S16x512 1) (main_v61 : FVec F S16x512x512 .f32) (main_values_5 : FVec F S16x512x17 .f32) : IVec S3x256x256 1 × IVec S3x16x512 1 :=
  let main_indices_6 : IVec S16x512x17 32 := (fun x => (Host.topK S16x512x17 2 (FloatOps.cmpfTotal .gt) x sliceFits_S16x512x512_S16x512x17).2) main_v61
  let main_v62 : FVec F S16x512x1 .f32 := (extractStridedSlice S16x512x1 ![0, 0, 15] · slices_S16x512x17_S16x512x1_0_0_15) main_values_5
  let main_v63 : FVec F S16x512 .f32 := shapeCast S16x512 main_v62 shapeCasts_S16x512x1_S16x512
  let main_v64 : FVec F S16x512x1 .f32 := (extractStridedSlice S16x512x1 ![0, 0, 16] · slices_S16x512x17_S16x512x1_0_0_16) main_values_5
  let main_v65 : FVec F S16x512 .f32 := shapeCast S16x512 main_v64 shapeCasts_S16x512x1_S16x512
  let main_v66 : IVec S16x512 1 := cmpf .ogt main_v63 main_v65
  let main_cst_7 : FVec F S_ .f32 := constant S_ .f32 0x00000000#32
  let main_v67 : FVec F S16x512 .f32 := broadcastInDim S16x512 ![] bcast_S_S16x512 main_cst_7
  let main_v68 : IVec S16x512 1 := cmpf .ole main_v63 main_v67
  let main_v69 : IVec S16x512 1 := ori main_v66 main_v68
  let main_v70 : FVec F S512x256 .f32 := (transpose S512x256 [1, 0] · transposes_S256x512_S512x256_1_0) main_arg1
  let main_v71 : FVec F S16x512x256 .f32 := (fun l r => Host.dotGeneral dot_S16x512x512_S512x256_S16x512x256_2_0_01_1_n_n none l r) main_arg0 main_v70
  let main_v72 : FVec F S1x1x256 .f32 := broadcastInDim S1x1x256 ![2] bcast_S256_S1x1x256_2 main_arg2
  let main_v73 : FVec F S16x512x256 .f32 := broadcastInDim S16x512x256 ![0, 1, 2] bcast_S1x1x256_S16x512x256_0_1_2 main_v72
  let main_v74 : FVec F S16x512x256 .f32 := addf main_v71 main_v73
  let main_v75 : FVec F S16x512x256 .f32 := Host.tanh main_v74
  let main_v76 : IVec S512x512 32 := iotaInDim S512x512 32 0
  let main_v77 : IVec S512x512 32 := iotaInDim S512x512 32 1
  let main_c_8 : IVec S_ 32 := constantI S_ 32 0#32
  let main_v78 : IVec S512x512 32 := broadcastInDim S512x512 ![] bcast_S_S512x512 main_c_8
  let main_v79 : IVec S512x512 32 := addi main_v76 main_v78
  let main_v80 : IVec S512x512 1 := cmpi .eq main_v79 main_v77
  let main_v81 : FVec F S512x512 .f32 := uitofp .f32 main_v80
  let main_v82 : FVec F S1x256x256 .f32 := (extractStridedSlice S1x256x256 ![2, 0, 0] · slices_S3x256x256_S1x256x256_2_0_0) main_arg3
  fn_part4 (F := F) main_arg3 main_v34 main_v69 main_v75 main_v81 main_v82

def fn_part2 {F : FTy → Type} [FloatOps F] (main_arg0 : FVec F S16x512x512 .f32) (main_arg1 : FVec F S256x512 .f32) (main_arg2 : FVec F S256 .f32) (main_arg3 : FVec F S3x256x256 .f32) (main_v34 : IVec S16x512 1) (main_v40 : FVec F S16x512x256 .f32) (main_v41 : IVec S512x512 32) : IVec S3x256x256 1 × IVec S3x16x512 1 :=
  let main_v42 : IVec S512x512 32 := iotaInDim S512x512 32 1
  let main_c_2 : IVec S_ 32 := constantI S_ 32 0#32
  let main_v43 : IVec S512x512 32 := broadcastInDim S512x512 ![] bcast_S_S512x512 main_c_2
  let main_v44 : IVec S512x512 32 := addi main_v41 main_v43
  let main_v45 : IVec S512x512 1 := cmpi .eq main_v44 main_v42
  let main_v46 : FVec F S512x512 .f32 := uitofp .f32 main_v45
  let main_v47 : FVec F S1x256x256 .f32 := (extractStridedSlice S1x256x256 ![1, 0, 0] · slices_S3x256x256_S1x256x256_1_0_0) main_arg3
  let main_v48 : FVec F S256x256 .f32 := shapeCast S256x256 main_v47 shapeCasts_S1x256x256_S256x256
  let main_v49 : FVec F S16x512x256 .f32 := (fun l r => Host.dotGeneral dot_S16x512x256_S256x256_S16x512x256_2_0_01_1_n_n none l r) main_v40 main_v48
  let main_v50 : FVec F S16x256x512 .f32 := (transpose S16x256x512 [0, 2, 1] · transposes_S16x512x256_S16x256x512_0_2_1) main_v40
  let main_v51 : FVec F S16x512x512 .f32 := (fun l r => Host.dotGeneral dot_S16x512x256_S16x256x512_S16x512x512_2_1_1_2_0_0 none l r) main_v49 main_v50
  let main_cst_3 : FVec F S_ .f32 := constant S_ .f32 0x41800000#32
  let main_v52 : FVec F S16x512x512 .f32 := broadcastInDim S16x512x512 ![] bcast_S_S16x512x512 main_cst_3
  let main_v53 : FVec F S16x512x512 .f32 := Host.divf main_v51 main_v52
  let main_cst_4 : FVec F S_ .f32 := constant S_ .f32 0x40A00000#32
  let main_v54 : FVec F S16x512x512 .f32 := broadcastInDim S16x512x512 ![] bcast_S_S16x512x512 main_cst_4
  let main_v55 : FVec F S16x512x512 .f32 := Host.divf main_v53 main_v54
  let main_v56 : FVec F S1x512x512 .f32 := broadcastInDim S1x512x512 ![1, 2] bcast_S512x512_S1x512x512_1_2 main_v46
  let main_v57 : FVec F S16x512x512 .f32 := broadcastInDim S16x512x512 ![0, 1, 2] bcast_S1x512x512_S16x512x512_0_1_2 main_v56
  let main_v58 : FVec F S16x512x512 .f32 := mulf main_v57 main_v55
  let main_v59 : FVec F S16x512x512 .f32 := subf main_v55 main_v58
  let main_v60 : FVec F S16x512x512 .f32 := fn_relu (F := F) main_v59
  let main_v61 : FVec F S16x512x512 .f32 := (transpose S16x512x512 [0, 2, 1] · transposes_S16x512x512_S16x512x512_0_2_1) main_v60
  let main_values_5 : FVec F S16x512x17 .f32 := (fun x => (Host.topK S16x512x17 2 (FloatOps.cmpfTotal .gt) x sliceFits_S16x512x512_S16x512x17).1) main_v61
  fn_part3 (F := F) main_arg0 main_arg1 main_arg2 main_arg3 main_v34 main_v61 main_values_5

def fn_part1 {F : FTy → Type} [FloatOps F] (main_arg0 : FVec F S16x512x512 .f32) (main_arg1 : FVec F S256x512 .f32) (main_arg2 : FVec F S256 .f32) (main_arg3 : FVec F S3x256x256 .f32) (main_v11 : FVec F S512x512 .f32) (main_v20 : FVec F S16x512x512 .f32) : IVec S3x256x256 1 × IVec S3x16x512 1 :=
  let main_v21 : FVec F S1x512x512 .f32 := broadcastInDim S1x512x512 ![1, 2] bcast_S512x512_S1x512x512_1_2 main_v11
  let main_v22 : FVec F S16x512x512 .f32 := broadcastInDim S16x512x512 ![0, 1, 2] bcast_S1x512x512_S16x512x512_0_1_2 main_v21
  let main_v23 : FVec F S16x512x512 .f32 := mulf main_v22 main_v20
  let main_v24 : FVec F S16x512x512 .f32 := subf main_v20 main_v23
  let main_v25 : FVec F S16x512x512 .f32 := fn_relu (F := F) main_v24
  let main_v26 : FVec F S16x512x512 .f32 := (transpose S16x512x512 [0, 2, 1] · transposes_S16x512x512_S16x512x512_0_2_1) main_v25
  let main_values : FVec F S16x512x17 .f32 := (fun x => (Host.topK S16x512x17 2 (FloatOps.cmpfTotal .gt) x sliceFits_S16x512x512_S16x512x17).1) main_v26
  let main_indices : IVec S16x512x17 32 := (fun x => (Host.topK S16x512x17 2 (FloatOps.cmpfTotal .gt) x sliceFits_S16x512x512_S16x512x17).2) main_v26
  let main_v27 : FVec F S16x512x1 .f32 := (extractStridedSlice S16x512x1 ![0, 0, 15] · slices_S16x512x17_S16x512x1_0_0_15) main_values
  let main_v28 : FVec F S16x512 .f32 := shapeCast S16x512 main_v27 shapeCasts_S16x512x1_S16x512
  let main_v29 : FVec F S16x512x1 .f32 := (extractStridedSlice S16x512x1 ![0, 0, 16] · slices_S16x512x17_S16x512x1_0_0_16) main_values
  let main_v30 : FVec F S16x512 .f32 := shapeCast S16x512 main_v29 shapeCasts_S16x512x1_S16x512
  let main_v31 : IVec S16x512 1 := cmpf .ogt main_v28 main_v30
  let main_cst_1 : FVec F S_ .f32 := constant S_ .f32 0x00000000#32
  let main_v32 : FVec F S16x512 .f32 := broadcastInDim S16x512 ![] bcast_S_S16x512 main_cst_1
  let main_v33 : IVec S16x512 1 := cmpf .ole main_v28 main_v32
  let main_v34 : IVec S16x512 1 := ori main_v31 main_v33
  let main_v35 : FVec F S512x256 .f32 := (transpose S512x256 [1, 0] · transposes_S256x512_S512x256_1_0) main_arg1
  let main_v36 : FVec F S16x512x256 .f32 := (fun l r => Host.dotGeneral dot_S16x512x512_S512x256_S16x512x256_2_0_01_1_n_n none l r) main_arg0 main_v35
  let main_v37 : FVec F S1x1x256 .f32 := broadcastInDim S1x1x256 ![2] bcast_S256_S1x1x256_2 main_arg2
  let main_v38 : FVec F S16x512x256 .f32 := broadcastInDim S16x512x256 ![0, 1, 2] bcast_S1x1x256_S16x512x256_0_1_2 main_v37
  let main_v39 : FVec F S16x512x256 .f32 := addf main_v36 main_v38
  let main_v40 : FVec F S16x512x256 .f32 := Host.tanh main_v39
  let main_v41 : IVec S512x512 32 := iotaInDim S512x512 32 0
  fn_part2 (F := F) main_arg0 main_arg1 main_arg2 main_arg3 main_v34 main_v40 main_v41

def fn {F : FTy → Type} [FloatOps F] (main_arg0 : FVec F S16x512x512 .f32) (main_arg1 : FVec F S256x512 .f32) (main_arg2 : FVec F S256 .f32) (main_arg3 : FVec F S3x256x256 .f32) : IVec S3x256x256 1 × IVec S3x16x512 1 :=
  let main_v0 : FVec F S512x256 .f32 := (transpose S512x256 [1, 0] · transposes_S256x512_S512x256_1_0) main_arg1
  let main_v1 : FVec F S16x512x256 .f32 := (fun l r => Host.dotGeneral dot_S16x512x512_S512x256_S16x512x256_2_0_01_1_n_n none l r) main_arg0 main_v0
  let main_v2 : FVec F S1x1x256 .f32 := broadcastInDim S1x1x256 ![2] bcast_S256_S1x1x256_2 main_arg2
  let main_v3 : FVec F S16x512x256 .f32 := broadcastInDim S16x512x256 ![0, 1, 2] bcast_S1x1x256_S16x512x256_0_1_2 main_v2
  let main_v4 : FVec F S16x512x256 .f32 := addf main_v1 main_v3
  let main_v5 : FVec F S16x512x256 .f32 := Host.tanh main_v4
  let main_v6 : IVec S512x512 32 := iotaInDim S512x512 32 0
  let main_v7 : IVec S512x512 32 := iotaInDim S512x512 32 1
  let main_c : IVec S_ 32 := constantI S_ 32 0#32
  let main_v8 : IVec S512x512 32 := broadcastInDim S512x512 ![] bcast_S_S512x512 main_c
  let main_v9 : IVec S512x512 32 := addi main_v6 main_v8
  let main_v10 : IVec S512x512 1 := cmpi .eq main_v9 main_v7
  let main_v11 : FVec F S512x512 .f32 := uitofp .f32 main_v10
  let main_v12 : FVec F S1x256x256 .f32 := (extractStridedSlice S1x256x256 ![0, 0, 0] · slices_S3x256x256_S1x256x256_0_0_0) main_arg3
  let main_v13 : FVec F S256x256 .f32 := shapeCast S256x256 main_v12 shapeCasts_S1x256x256_S256x256
  let main_v14 : FVec F S16x512x256 .f32 := (fun l r => Host.dotGeneral dot_S16x512x256_S256x256_S16x512x256_2_0_01_1_n_n none l r) main_v5 main_v13
  let main_v15 : FVec F S16x256x512 .f32 := (transpose S16x256x512 [0, 2, 1] · transposes_S16x512x256_S16x256x512_0_2_1) main_v5
  let main_v16 : FVec F S16x512x512 .f32 := (fun l r => Host.dotGeneral dot_S16x512x256_S16x256x512_S16x512x512_2_1_1_2_0_0 none l r) main_v14 main_v15
  let main_cst : FVec F S_ .f32 := constant S_ .f32 0x41800000#32
  let main_v17 : FVec F S16x512x512 .f32 := broadcastInDim S16x512x512 ![] bcast_S_S16x512x512 main_cst
  let main_v18 : FVec F S16x512x512 .f32 := Host.divf main_v16 main_v17
  let main_cst_0 : FVec F S_ .f32 := constant S_ .f32 0x40A00000#32
  let main_v19 : FVec F S16x512x512 .f32 := broadcastInDim S16x512x512 ![] bcast_S_S16x512x512 main_cst_0
  let main_v20 : FVec F S16x512x512 .f32 := Host.divf main_v18 main_v19
  fn_part1 (F := F) main_arg0 main_arg1 main_arg2 main_arg3 main_v11 main_v20
-- ==== Kernel.lean ====
abbrev S16x512x512 : Shape := ⟨3, ![16, 512, 512]⟩
abbrev S256x512 : Shape := ⟨2, ![256, 512]⟩
abbrev S256 : Shape := ⟨1, ![256]⟩
abbrev S3x256x256 : Shape := ⟨3, ![3, 256, 256]⟩
abbrev S1x256 : Shape := ⟨2, ![1, 256]⟩
abbrev S3x16x512x512 : Shape := ⟨4, ![3, 16, 512, 512]⟩
abbrev S4x512x512 : Shape := ⟨3, ![4, 512, 512]⟩
abbrev S1x256x256 : Shape := ⟨3, ![1, 256, 256]⟩
abbrev S1x4x512x512 : Shape := ⟨4, ![1, 4, 512, 512]⟩
abbrev S4x512x256 : Shape := ⟨3, ![4, 512, 256]⟩
abbrev S1x512x512 : Shape := ⟨3, ![1, 512, 512]⟩
abbrev S512x512 : Shape := ⟨2, ![512, 512]⟩
abbrev S512x256 : Shape := ⟨2, ![512, 256]⟩
abbrev S1x512x256 : Shape := ⟨3, ![1, 512, 256]⟩
abbrev S256x256 : Shape := ⟨2, ![256, 256]⟩
abbrev S1x1x512x512 : Shape := ⟨4, ![1, 1, 512, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩

abbrev nBuf : Space → Nat
  | .hbm => 7
  | .vmem => 12
  | .smem => 0
  | _ => 0

abbrev bufTy : (tb : Table) → Fin (tcTables nBuf tb) → BufTy
  | .hbm, ⟨0, _⟩ => ⟨S16x512x512, .f32⟩
  | .hbm, ⟨1, _⟩ => ⟨S256x512, .f32⟩
  | .hbm, ⟨2, _⟩ => ⟨S256, .f32⟩
  | .hbm, ⟨3, _⟩ => ⟨S3x256x256, .f32⟩
  | .hbm, ⟨4, _⟩ => ⟨S1x256, .f32⟩
  | .hbm, ⟨5, _⟩ => ⟨S3x16x512x512, .f32⟩
  | .hbm, ⟨6, _⟩ => ⟨S3x16x512x512, .f32⟩
  | .local _ .vmem, ⟨0, _⟩ => ⟨S4x512x512, .f32⟩
  | .local _ .vmem, ⟨1, _⟩ => ⟨S4x512x512, .f32⟩
  | .local _ .vmem, ⟨2, _⟩ => ⟨S256x512, .f32⟩
  | .local _ .vmem, ⟨3, _⟩ => ⟨S1x256, .f32⟩
  | .local _ .vmem, ⟨4, _⟩ => ⟨S1x256x256, .f32⟩
  | .local _ .vmem, ⟨5, _⟩ => ⟨S1x256x256, .f32⟩
  | .local _ .vmem, ⟨6, _⟩ => ⟨S1x4x512x512, .f32⟩
  | .local _ .vmem, ⟨7, _⟩ => ⟨S1x4x512x512, .f32⟩
  | .local _ .vmem, ⟨8, _⟩ => ⟨S1x4x512x512, .f32⟩
  | .local _ .vmem, ⟨9, _⟩ => ⟨S1x4x512x512, .f32⟩
  | .local _ .vmem, ⟨10, _⟩ => ⟨S4x512x256, .f32⟩
  | .local _ .vmem, ⟨11, _⟩ => ⟨S4x512x512, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S4x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "scale" => some ((1 / 80 : ℝ) : EReal)
  | _ => none
-- ==== ReferenceIdeal.lean ====
abbrev S16x512x512 : Shape := ⟨3, ![16, 512, 512]⟩
abbrev S256x512 : Shape := ⟨2, ![256, 512]⟩
abbrev S256 : Shape := ⟨1, ![256]⟩
abbrev S3x256x256 : Shape := ⟨3, ![3, 256, 256]⟩
abbrev S512x256 : Shape := ⟨2, ![512, 256]⟩
abbrev S16x512x256 : Shape := ⟨3, ![16, 512, 256]⟩
abbrev S1x1x256 : Shape := ⟨3, ![1, 1, 256]⟩
abbrev S512x512 : Shape := ⟨2, ![512, 512]⟩
abbrev S_ : Shape := ⟨0, ![]⟩
abbrev S1x256x256 : Shape := ⟨3, ![1, 256, 256]⟩
abbrev S256x256 : Shape := ⟨2, ![256, 256]⟩
abbrev S16x256x512 : Shape := ⟨3, ![16, 256, 512]⟩
abbrev S1x512x512 : Shape := ⟨3, ![1, 512, 512]⟩
abbrev S16x512x16 : Shape := ⟨3, ![16, 512, 16]⟩
abbrev S16 : Shape := ⟨1, ![16]⟩
abbrev S16x1x1 : Shape := ⟨3, ![16, 1, 1]⟩
abbrev S512 : Shape := ⟨1, ![512]⟩
abbrev S1x512x1 : Shape := ⟨3, ![1, 512, 1]⟩
abbrev S16x512x16x1 : Shape := ⟨4, ![16, 512, 16, 1]⟩
abbrev S16x512x16x3 : Shape := ⟨4, ![16, 512, 16, 3]⟩
abbrev S1x16x512x512 : Shape := ⟨4, ![1, 16, 512, 512]⟩
abbrev S3x16x512x512 : Shape := ⟨4, ![3, 16, 512, 512]⟩

abbrev nBuf : Space → Nat
  | .hbm => 221
  | .vmem => 0
  | .smem => 0
  | _ => 0

abbrev hbmTy0_0 (i : Nat) : BufTy := match i % 128 with
  | 0 => ⟨S16x512x512, .f32⟩
  | 1 => ⟨S256x512, .f32⟩
  | 2 => ⟨S256, .f32⟩
  | 3 => ⟨S3x256x256, .f32⟩
  | 4 => ⟨S512x256, .f32⟩
  | 5 => ⟨S16x512x256, .f32⟩
  | 6 => ⟨S1x1x256, .f32⟩
  | 7 => ⟨S16x512x256, .f32⟩
  | 8 => ⟨S16x512x256, .f32⟩
  | 9 => ⟨S16x512x256, .f32⟩
  | 10 => ⟨S512x512, .i32⟩
  | 11 => ⟨S512x512, .i32⟩
  | 12 => ⟨S_, .i32⟩
  | 13 => ⟨S512x512, .i32⟩
  | 14 => ⟨S512x512, .i32⟩
  | 15 => ⟨S512x512, .i1⟩
  | 16 => ⟨S512x512, .f32⟩
  | 17 => ⟨S1x256x256, .f32⟩
  | 18 => ⟨S256x256, .f32⟩
  | 19 => ⟨S16x512x256, .f32⟩
  | 20 => ⟨S16x256x512, .f32⟩
  | 21 => ⟨S16x512x512, .f32⟩
  | 22 => ⟨S_, .f32⟩
  | 23 => ⟨S16x512x512, .f32⟩
  | 24 => ⟨S16x512x512, .f32⟩
  | 25 => ⟨S_, .f32⟩
  | 26 => ⟨S16x512x512, .f32⟩
  | 27 => ⟨S16x512x512, .f32⟩
  | 28 => ⟨S1x512x512, .f32⟩
  | 29 => ⟨S16x512x512, .f32⟩
  | 30 => ⟨S16x512x512, .f32⟩
  | 31 => ⟨S16x512x512, .f32⟩
  | 32 => ⟨S_, .f32⟩
  | 33 => ⟨S16x512x512, .f32⟩
  | 34 => ⟨S16x512x512, .f32⟩
  | 35 => ⟨S16x512x512, .f32⟩
  | 36 => ⟨S16x512x16, .f32⟩
  | 37 => ⟨S16x512x16, .i32⟩
  | 38 => ⟨S16, .i32⟩
  | 39 => ⟨S16x1x1, .i32⟩
  | 40 => ⟨S512, .i32⟩
  | 41 => ⟨S1x512x1, .i32⟩
  | 42 => ⟨S_, .f32⟩
  | 43 => ⟨S16x512x512, .f32⟩
  | 44 => ⟨S_, .i32⟩
  | 45 => ⟨S16x1x1, .i32⟩
  | 46 => ⟨S16x1x1, .i1⟩
  | 47 => ⟨S_, .i32⟩
  | 48 => ⟨S16x1x1, .i32⟩
  | 49 => ⟨S16x1x1, .i32⟩
  | 50 => ⟨S16x1x1, .i32⟩
  | 51 => ⟨S_, .i32⟩
  | 52 => ⟨S1x512x1, .i32⟩
  | 53 => ⟨S1x512x1, .i1⟩
  | 54 => ⟨S_, .i32⟩
  | 55 => ⟨S1x512x1, .i32⟩
  | 56 => ⟨S1x512x1, .i32⟩
  | 57 => ⟨S1x512x1, .i32⟩
  | 58 => ⟨S_, .i32⟩
  | 59 => ⟨S16x512x16, .i32⟩
  | 60 => ⟨S16x512x16, .i1⟩
  | 61 => ⟨S_, .i32⟩
  | 62 => ⟨S16x512x16, .i32⟩
  | 63 => ⟨S16x512x16, .i32⟩
  | 64 => ⟨S16x512x16, .i32⟩
  | 65 => ⟨S16x512x16, .i32⟩
  | 66 => ⟨S16x512x16, .i32⟩
  | 67 => ⟨S16x512x16x1, .i32⟩
  | 68 => ⟨S16x512x16x1, .i32⟩
  | 69 => ⟨S16x512x16x1, .i32⟩
  | 70 => ⟨S16x512x16x3, .i32⟩
  | 71 => ⟨S16x512x512, .f32⟩
  | 72 => ⟨S16x512x512, .f32⟩
  | 73 => ⟨S512x256, .f32⟩
  | 74 => ⟨S16x512x256, .f32⟩
  | 75 => ⟨S1x1x256, .f32⟩
  | 76 => ⟨S16x512x256, .f32⟩
  | 77 => ⟨S16x512x256, .f32⟩
  | 78 => ⟨S16x512x256, .f32⟩
  | 79 => ⟨S512x512, .i32⟩
  | 80 => ⟨S512x512, .i32⟩
  | 81 => ⟨S_, .i32⟩
  | 82 => ⟨S512x512, .i32⟩
  | 83 => ⟨S512x512, .i32⟩
  | 84 => ⟨S512x512, .i1⟩
  | 85 => ⟨S512x512, .f32⟩
  | 86 => ⟨S1x256x256, .f32⟩
  | 87 => ⟨S256x256, .f32⟩
  | 88 => ⟨S16x512x256, .f32⟩
  | 89 => ⟨S16x256x512, .f32⟩
  | 90 => ⟨S16x512x512, .f32⟩
  | 91 => ⟨S_, .f32⟩
  | 92 => ⟨S16x512x512, .f32⟩
  | 93 => ⟨S16x512x512, .f32⟩
  | 94 => ⟨S_, .f32⟩
  | 95 => ⟨S16x512x512, .f32⟩
  | 96 => ⟨S16x512x512, .f32⟩
  | 97 => ⟨S1x512x512, .f32⟩
  | 98 => ⟨S16x512x512, .f32⟩
  | 99 => ⟨S16x512x512, .f32⟩
  | 100 => ⟨S16x512x512, .f32⟩
  | 101 => ⟨S_, .f32⟩
  | 102 => ⟨S16x512x512, .f32⟩
  | 103 => ⟨S16x512x512, .f32⟩
  | 104 => ⟨S16x512x512, .f32⟩
  | 105 => ⟨S16x512x16, .f32⟩
  | 106 => ⟨S16x512x16, .i32⟩
  | 107 => ⟨S16, .i32⟩
  | 108 => ⟨S16x1x1, .i32⟩
  | 109 => ⟨S512, .i32⟩
  | 110 => ⟨S1x512x1, .i32⟩
  | 111 => ⟨S_, .f32⟩
  | 112 => ⟨S16x512x512, .f32⟩
  | 113 => ⟨S_, .i32⟩
  | 114 => ⟨S16x1x1, .i32⟩
  | 115 => ⟨S16x1x1, .i1⟩
  | 116 => ⟨S_, .i32⟩
  | 117 => ⟨S16x1x1, .i32⟩
  | 118 => ⟨S16x1x1, .i32⟩
  | 119 => ⟨S16x1x1, .i32⟩
  | 120 => ⟨S_, .i32⟩
  | 121 => ⟨S1x512x1, .i32⟩
  | 122 => ⟨S1x512x1, .i1⟩
  | 123 => ⟨S_, .i32⟩
  | 124 => ⟨S1x512x1, .i32⟩
  | 125 => ⟨S1x512x1, .i32⟩
  | 126 => ⟨S1x512x1, .i32⟩
  | 127 => ⟨S_, .i32⟩
  | _ => ⟨S16x512x512, .f32⟩

abbrev hbmTy0_1 (i : Nat) : BufTy := match i % 128 with
  | 0 => ⟨S16x512x16, .i32⟩
  | 1 => ⟨S16x512x16, .i1⟩
  | 2 => ⟨S_, .i32⟩
  | 3 => ⟨S16x512x16, .i32⟩
  | 4 => ⟨S16x512x16, .i32⟩
  | 5 => ⟨S16x512x16, .i32⟩
  | 6 => ⟨S16x512x16, .i32⟩
  | 7 => ⟨S16x512x16, .i32⟩
  | 8 => ⟨S16x512x16x1, .i32⟩
  | 9 => ⟨S16x512x16x1, .i32⟩
  | 10 => ⟨S16x512x16x1, .i32⟩
  | 11 => ⟨S16x512x16x3, .i32⟩
  | 12 => ⟨S16x512x512, .f32⟩
  | 13 => ⟨S16x512x512, .f32⟩
  | 14 => ⟨S512x256, .f32⟩
  | 15 => ⟨S16x512x256, .f32⟩
  | 16 => ⟨S1x1x256, .f32⟩
  | 17 => ⟨S16x512x256, .f32⟩
  | 18 => ⟨S16x512x256, .f32⟩
  | 19 => ⟨S16x512x256, .f32⟩
  | 20 => ⟨S512x512, .i32⟩
  | 21 => ⟨S512x512, .i32⟩
  | 22 => ⟨S_, .i32⟩
  | 23 => ⟨S512x512, .i32⟩
  | 24 => ⟨S512x512, .i32⟩
  | 25 => ⟨S512x512, .i1⟩
  | 26 => ⟨S512x512, .f32⟩
  | 27 => ⟨S1x256x256, .f32⟩
  | 28 => ⟨S256x256, .f32⟩
  | 29 => ⟨S16x512x256, .f32⟩
  | 30 => ⟨S16x256x512, .f32⟩
  | 31 => ⟨S16x512x512, .f32⟩
  | 32 => ⟨S_, .f32⟩
  | 33 => ⟨S16x512x512, .f32⟩
  | 34 => ⟨S16x512x512, .f32⟩
  | 35 => ⟨S_, .f32⟩
  | 36 => ⟨S16x512x512, .f32⟩
  | 37 => ⟨S16x512x512, .f32⟩
  | 38 => ⟨S1x512x512, .f32⟩
  | 39 => ⟨S16x512x512, .f32⟩
  | 40 => ⟨S16x512x512, .f32⟩
  | 41 => ⟨S16x512x512, .f32⟩
  | 42 => ⟨S_, .f32⟩
  | 43 => ⟨S16x512x512, .f32⟩
  | 44 => ⟨S16x512x512, .f32⟩
  | 45 => ⟨S16x512x512, .f32⟩
  | 46 => ⟨S16x512x16, .f32⟩
  | 47 => ⟨S16x512x16, .i32⟩
  | 48 => ⟨S16, .i32⟩
  | 49 => ⟨S16x1x1, .i32⟩
  | 50 => ⟨S512, .i32⟩
  | 51 => ⟨S1x512x1, .i32⟩
  | 52 => ⟨S_, .f32⟩
  | 53 => ⟨S16x512x512, .f32⟩
  | 54 => ⟨S_, .i32⟩
  | 55 => ⟨S16x1x1, .i32⟩
  | 56 => ⟨S16x1x1, .i1⟩
  | 57 => ⟨S_, .i32⟩
  | 58 => ⟨S16x1x1, .i32⟩
  | 59 => ⟨S16x1x1, .i32⟩
  | 60 => ⟨S16x1x1, .i32⟩
  | 61 => ⟨S_, .i32⟩
  | 62 => ⟨S1x512x1, .i32⟩
  | 63 => ⟨S1x512x1, .i1⟩
  | 64 => ⟨S_, .i32⟩
  | 65 => ⟨S1x512x1, .i32⟩
  | 66 => ⟨S1x512x1, .i32⟩
  | 67 => ⟨S1x512x1, .i32⟩
  | 68 => ⟨S_, .i32⟩
  | 69 => ⟨S16x512x16, .i32⟩
  | 70 => ⟨S16x512x16, .i1⟩
  | 71 => ⟨S_, .i32⟩
  | 72 => ⟨S16x512x16, .i32⟩
  | 73 => ⟨S16x512x16, .i32⟩
  | 74 => ⟨S16x512x16, .i32⟩
  | 75 => ⟨S16x512x16, .i32⟩
  | 76 => ⟨S16x512x16, .i32⟩
  | 77 => ⟨S16x512x16x1, .i32⟩
  | 78 => ⟨S16x512x16x1, .i32⟩
  | 79 => ⟨S16x512x16x1, .i32⟩
  | 80 => ⟨S16x512x16x3, .i32⟩
  | 81 => ⟨S16x512x512, .f32⟩
  | 82 => ⟨S16x512x512, .f32⟩
  | 83 => ⟨S16x512x512, .f32⟩
  | 84 => ⟨S16x512x512, .f32⟩
  | 85 => ⟨S1x16x512x512, .f32⟩
  | 86 => ⟨S1x16x512x512, .f32⟩
  | 87 => ⟨S1x16x512x512, .f32⟩
  | 88 => ⟨S3x16x512x512, .f32⟩
  | 89 => ⟨S1x16x512x512, .f32⟩
  | 90 => ⟨S1x16x512x512, .f32⟩
  | 91 => ⟨S1x16x512x512, .f32⟩
  | 92 => ⟨S3x16x512x512, .f32⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_call0_cst : Ref sig .tc := ⟨.hbm, 32, rfl⟩
abbrev main_call0_v0 : Ref sig .tc := ⟨.hbm, 33, rfl⟩
abbrev main_v25 : Ref sig .tc := ⟨.hbm, 34, rfl⟩
abbrev main_v26 : Ref sig .tc := ⟨.hbm, 35, rfl⟩
abbrev main_values : Ref sig .tc := ⟨.hbm, 36, rfl⟩
abbrev main_indices : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_1 : Ref sig .tc := ⟨.hbm, 42, rfl⟩
abbrev main_v31 : Ref sig .tc := ⟨.hbm, 43, rfl⟩
abbrev main_c_2 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_4 : Ref sig .tc := ⟨.hbm, 51, rfl⟩
abbrev main_v37 : Ref sig .tc := ⟨.hbm, 52, rfl⟩
abbrev main_v38 : Ref sig .tc := ⟨.hbm, 53, rfl⟩
abbrev main_c_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_c_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_9 : Ref sig .tc := ⟨.hbm, 91, rfl⟩
abbrev main_v72 : Ref sig .tc := ⟨.hbm, 92, rfl⟩
abbrev main_v73 : Ref sig .tc := ⟨.hbm, 93, rfl⟩
abbrev main_cst_10 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_call1_cst : Ref sig .tc := ⟨.hbm, 101, rfl⟩
abbrev main_call1_v0 : Ref sig .tc := ⟨.hbm, 102, rfl⟩
abbrev main_v80 : Ref sig .tc := ⟨.hbm, 103, rfl⟩
abbrev main_v81 : Ref sig .tc := ⟨.hbm, 104, rfl⟩
abbrev main_values_11 : Ref sig .tc := ⟨.hbm, 105, rfl⟩
abbrev main_indices_12 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_cst_13 : Ref sig .tc := ⟨.hbm, 111, rfl⟩
abbrev main_v86 : Ref sig .tc := ⟨.hbm, 112, rfl⟩
abbrev main_c_14 : Ref sig .tc := ⟨.hbm, 113, rfl⟩
abbrev main_v87 : Ref sig .tc := ⟨.hbm, 114, rfl⟩
abbrev main_v88 : Ref sig .tc := ⟨.hbm, 115, rfl⟩
abbrev main_c_15 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_16 : Ref sig .tc := ⟨.hbm, 120, rfl⟩
abbrev main_v92 : Ref sig .tc := ⟨.hbm, 121, rfl⟩
abbrev main_v93 : Ref sig .tc := ⟨.hbm, 122, rfl⟩
abbrev main_c_17 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_18 : Ref sig .tc := ⟨.hbm, 127, rfl⟩
abbrev main_v97 : Ref sig .tc := ⟨.hbm, 128, rfl⟩
abbrev main_v98 : Ref sig .tc := ⟨.hbm, 129, rfl⟩
abbrev main_c_19 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_c_20 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_cst_21 : Ref sig .tc := ⟨.hbm, 160, rfl⟩
abbrev main_v127 : Ref sig .tc := ⟨.hbm, 161, rfl⟩
abbrev main_v128 : Ref sig .tc := ⟨.hbm, 162, rfl⟩
abbrev main_cst_22 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_call2_cst : Ref sig .tc := ⟨.hbm, 170, rfl⟩
abbrev main_call2_v0 : Ref sig .tc := ⟨.hbm, 171, rfl⟩
abbrev main_v135 : Ref sig .tc := ⟨.hbm, 172, rfl⟩
abbrev main_v136 : Ref sig .tc := ⟨.hbm, 173, rfl⟩
abbrev main_values_23 : Ref sig .tc := ⟨.hbm, 174, rfl⟩
abbrev main_indices_24 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_cst_25 : Ref sig .tc := ⟨.hbm, 180, rfl⟩
abbrev main_v141 : Ref sig .tc := ⟨.hbm, 181, rfl⟩
abbrev main_c_26 : Ref sig .tc := ⟨.hbm, 182, rfl⟩
abbrev main_v142 : Ref sig .tc := ⟨.hbm, 183, rfl⟩
abbrev main_v143 : Ref sig .tc := ⟨.hbm, 184, rfl⟩
abbrev main_c_27 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_c_28 : Ref sig .tc := ⟨.hbm, 189, rfl⟩
abbrev main_v147 : Ref sig .tc := ⟨.hbm, 190, rfl⟩
abbrev main_v148 : Ref sig .tc := ⟨.hbm, 191, rfl⟩
abbrev main_c_29 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_c_30 : Ref sig .tc := ⟨.hbm, 196, rfl⟩
abbrev main_v152 : Ref sig .tc := ⟨.hbm, 197, rfl⟩
abbrev main_v153 : Ref sig .tc := ⟨.hbm, 198, rfl⟩
abbrev main_c_31 : Ref sig .tc := ⟨.hbm, 199, rfl⟩
abbrev main_v154 : Ref sig .tc := ⟨.hbm, 200, rfl⟩
abbrev main_v155 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩
abbrev main_v163 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩

abbrev nD : Nat := 1
abbrev τ : Topo := Topo.v7x

variable {F : FTy → Type} [FloatOps F]
-- ==== Proof.Registers.lean ====
module

public import proofs.«01_k».proof.Proof.Gen.KernelIdeal.Value

@[expose] public section

noncomputable section

namespace Own

open Idealize.ShloMosaic

variable {F : FTy → Type} [FloatOps F] [Named F]

/-- Sixteen registers of `n` rows and 512 columns. -/
abbrev Regs (F : FTy → Type) (n : Nat) := Fin 16 → FVec F (⟨2, ![n, 512]⟩ : Shape) .f32

/-- One exchange: the greater entries go to register `p.1`, the lesser ones to register `p.2`. -/
def exchange {n : Nat} (S : Regs F n) (p : Fin 16 × Fin 16) : Regs F n := fun k =>
  if k = p.1 then maximumf (S p.1) (S p.2) else if k = p.2 then minimumf (S p.1) (S p.2) else S k

/-- The exchanges that put sixteen registers in descending order. -/
def sortPairs : List (Fin 16 × Fin 16) :=
  [(0, 1), (2, 3), (0, 2), (1, 3), (1, 2), (4, 5), (6, 7), (4, 6), (5, 7), (5, 6), (0, 4), (2, 6), (2, 4), (1, 5), (3, 7), (3, 5),
    (1, 2), (3, 4), (5, 6), (8, 9), (10, 11), (8, 10), (9, 11), (9, 10), (12, 13), (14, 15), (12, 14), (13, 15), (13, 14), (8, 12),
    (10, 14), (10, 12), (9, 13), (11, 15), (11, 13), (9, 10), (11, 12), (13, 14), (0, 8), (4, 12), (4, 8), (2, 10), (6, 14), (6, 10),
    (2, 4), (6, 8), (10, 12), (1, 9), (5, 13), (5, 9), (3, 11), (7, 15), (7, 11), (3, 5), (7, 9), (11, 13), (1, 2), (3, 4), (5, 6),
    (7, 8), (9, 10), (11, 12), (13, 14)]

/-- The exchanges that put sixteen registers, descending and then ascending, in descending order. -/
def cleanPairs : List (Fin 16 × Fin 16) :=
  [(0, 8), (1, 9), (2, 10), (3, 11), (4, 12), (5, 13), (6, 14), (7, 15), (0, 4), (1, 5), (2, 6), (3, 7), (8, 12), (9, 13), (10, 14),
    (11, 15), (0, 2), (1, 3), (4, 6), (5, 7), (8, 10), (9, 11), (12, 14), (13, 15), (0, 1), (2, 3), (4, 5), (6, 7), (8, 9), (10, 11),
    (12, 13), (14, 15)]

/-- The registers cut out of the 512 rows: register `s` is rows `32 s` to `32 s + 31`. -/
def cut (w : FVec F Cert.KernelIdeal.S512x512 .f32) : Regs F 32 := fun s =>
  extractStridedSlice _ ![32 * s.val, 0] w (by revert s; decide)

/-- Two halves of the rows joined: register `s` of the upper half against register `15 - s` of the lower half. -/
def halve {m n : Nat} (S : Regs F m) (hA : (⟨2, ![m, 512]⟩ : Shape).Slices ![0, 0] ⟨2, ![n, 512]⟩)
    (hB : (⟨2, ![m, 512]⟩ : Shape).Slices ![n, 0] ⟨2, ![n, 512]⟩) : Regs F n := fun s =>
  maximumf (extractStridedSlice _ ![0, 0] (S s) hA) (extractStridedSlice _ ![n, 0] (S (15 - s)) hB)

def sorted32 (w : FVec F Cert.KernelIdeal.S512x512 .f32) : Regs F 32 := sortPairs.foldl exchange (cut w)
def sorted16 (w : FVec F Cert.KernelIdeal.S512x512 .f32) : Regs F 16 := cleanPairs.foldl exchange (halve (sorted32 w) (by decide) (by decide))
def sorted8 (w : FVec F Cert.KernelIdeal.S512x512 .f32) : Regs F 8 := cleanPairs.foldl exchange (halve (sorted16 w) (by decide) (by decide))
def sorted4 (w : FVec F Cert.KernelIdeal.S512x512 .f32) : Regs F 4 := cleanPairs.foldl exchange (halve (sorted8 w) (by decide) (by decide))
def sorted2 (w : FVec F Cert.KernelIdeal.S512x512 .f32) : Regs F 2 := cleanPairs.foldl exchange (halve (sorted4 w) (by decide) (by decide))
def last1 (w : FVec F Cert.KernelIdeal.S512x512 .f32) : Regs F 1 := halve (sorted2 w) (by decide) (by decide)

/-- The least of the last sixteen rows: the row of thresholds. -/
def kthRow (w : FVec F Cert.KernelIdeal.S512x512 .f32) : FVec F (⟨2, ![1, 512]⟩ : Shape) .f32 :=
  [1, 2, 3, 4, 5, 6, 7, 8, 9, 10, 11, 12, 13, 14, 15].foldl (fun t (s : Fin 16) => minimumf t (last1 w s)) (last1 w 0)

end Own
-- ==== Proof.Selection.lean ====
module

public import Idealize.ShloMosaic.Lib.TopK.KeyRegisters
public import proofs.«01_k».proof.Proof.Registers

/-! The pure order theory of the selection: what sorting sixteen values and joining two sorted lists of sixteen say about
    how many of the values reach a given level. No program is mentioned here, only linear orders. -/

@[expose] public section

namespace Own

open Idealize.ShloMosaic Idealize.ShloMosaic.SortNet

variable {α : Type*} [LinearOrder α]

/-- One exchange of two of sixteen values: the greater one goes to position `p.1`, the lesser one to position `p.2`. -/
def exch (v : Fin 16 → α) (p : Fin 16 × Fin 16) : Fin 16 → α := fun k =>
  if k = p.1 then max (v p.1) (v p.2) else if k = p.2 then min (v p.1) (v p.2) else v k

/-- How many of the values of a finite family reach the level `x`. -/
def reach {ι : Type*} [Fintype ι] (v : ι → α) (x : α) : ℕ := (Finset.univ.filter fun i => x ≤ v i).card

/-- The sixteen values `T` are in descending order and exactly the first `N x` of them reach the level `x`. -/
def Ranked (T : Fin 16 → α) (N : α → ℕ) : Prop := ∀ x k, x ≤ T k ↔ k.val < N x

/-- The exchanges of the sort, done one by one, give what the odd-even merge sort of the library gives. -/
theorem foldl_exch_sortPairs (v : Fin 16 → α) : sortPairs.foldl exch v = Network.apply (oddEvenNet 4) v := by
  rw [TopK.KeyRegisters.oddEvenNet_four_eq]
  have flip : ∀ (w : Fin 16 → α) (p : Fin 16 × Fin 16), exch w p =
      fun k => if k = p.2 then min (w p.2) (w p.1) else if k = p.1 then max (w p.2) (w p.1) else w k := by
    intro w p
    funext k
    unfold exch
    rw [max_comm, min_comm]
    split_ifs with h1 h2 <;> try rfl
    have h3 : p.1 = p.2 := h1.symm.trans h2
    rw [h3]; simp
  have : sortPairs.foldl exch v = sortPairs.foldl (fun w p =>
      fun k => if k = p.2 then min (w p.2) (w p.1) else if k = p.1 then max (w p.2) (w p.1) else w k) v := by
    congr 1
    funext w p
    exact flip w p
  rw [this]
  funext k
  fin_cases k <;> sl_kernel_rfl

/-- A descending family of sixteen values: its first so many values reach a level, as many as reach it at all. -/
theorem ranked_of_antitone {T : Fin 16 → α} (hT : Antitone T) : Ranked T (reach T) := by
  intro x k
  constructor
  · intro hx
    have hsub : (Finset.univ.filter fun i : Fin 16 => i ≤ k) ⊆ Finset.univ.filter fun i => x ≤ T i := by
      intro i hi
      simp only [Finset.mem_filter, Finset.mem_univ, true_and] at hi ⊢
      exact hx.trans (hT hi)
    have hc := Finset.card_le_card hsub
    have : (Finset.univ.filter fun i : Fin 16 => i ≤ k).card = k.val + 1 := by
      clear hx hsub hc; revert k; decide
    unfold reach
    omega
  · intro hk
    by_contra hx
    have hsub : (Finset.univ.filter fun i => x ≤ T i) ⊆ Finset.univ.filter fun i : Fin 16 => i < k := by
      intro i hi
      simp only [Finset.mem_filter, Finset.mem_univ, true_and] at hi ⊢
      by_contra h
      exact hx (hi.trans (hT (not_lt.mp h)))
    have hc := Finset.card_le_card hsub
    have : (Finset.univ.filter fun i : Fin 16 => i < k).card = k.val := by
      clear hk hx hsub hc; revert k; decide
    unfold reach at hk
    omega

/-- The values sorted: exactly the first so many reach a level as reached it before the sort. -/
theorem ranked_sort (v : Fin 16 → α) : Ranked (sortPairs.foldl exch v) (reach v) := by
  rw [foldl_exch_sortPairs]
  have h := ranked_of_antitone (oddEvenNet_antitone 4 v)
  obtain ⟨σ, hσ⟩ := Network.exists_perm (oddEvenNet 4) v
  intro x k
  rw [h x k, hσ]
  have : reach (v ∘ σ) x = reach v x := by
    unfold reach
    refine Finset.card_bij (fun i _ => σ i) ?_ ?_ ?_
    · intro i hi; simpa using hi
    · intro i _ j _ hij; exact σ.injective hij
    · intro j hj; exact ⟨σ.symm j, by simpa using hj, by simp⟩
  exact ⟨fun hk => by rw [← this]; exact hk, fun hk => by rw [this]; exact hk⟩

/-- An exchange seen at a level: whether each of the values reaches it. -/
theorem level_exch (x : α) (v : Fin 16 → α) (p : Fin 16 × Fin 16) :
    (fun k => decide (x ≤ exch v p k)) = exch (fun k => decide (x ≤ v k)) p := by
  funext k
  unfold exch
  split_ifs
  · rw [Bool.eq_iff_iff]; simp [Bool.max_eq_or, le_max_iff]
  · rw [Bool.eq_iff_iff]; simp [Bool.min_eq_and, le_min_iff]
  · rfl

theorem level_foldl_exch (x : α) (ps : List (Fin 16 × Fin 16)) (v : Fin 16 → α) :
    (fun k => decide (x ≤ ps.foldl exch v k)) = ps.foldl exch (fun k => decide (x ≤ v k)) := by
  induction ps generalizing v with
  | nil => rfl
  | cons p ps ih => rw [List.foldl_cons, List.foldl_cons, ih, level_exch]

/-- The cleaning exchanges on truth values: two descending lists joined, the second one backwards. -/
theorem clean_bool : ∀ a b : Fin 17, ∀ k : Fin 16,
    cleanPairs.foldl exch (fun k : Fin 16 => decide (k.val < a.val) || decide ((15 - k).val < b.val)) k
      = decide (k.val < min 16 (a.val + b.val)) := by
  decide +kernel

/-- Two ranked families joined: the greater of each value of the first and the mirrored value of the second, cleaned, are
    ranked, and as many of them reach a level as in both families together, at most sixteen. -/
theorem ranked_clean {A B : Fin 16 → α} {M N : α → ℕ} (hA : Ranked A M) (hB : Ranked B N) :
    Ranked (cleanPairs.foldl exch fun k => max (A k) (B (15 - k))) (fun x => min 16 (M x + N x)) := by
  intro x k
  have h := congrFun (level_foldl_exch x cleanPairs fun k => max (A k) (B (15 - k))) k
  have hab : (fun k => decide (x ≤ max (A k) (B (15 - k))))
      = fun k : Fin 16 => decide (k.val < min 16 (M x)) || decide ((15 - k).val < min 16 (N x)) := by
    funext j
    rw [Bool.eq_iff_iff]
    simp only [decide_eq_true_eq, Bool.or_eq_true, le_max_iff, hA x j, hB x (15 - j)]
    have h1 := j.isLt
    have h2 := (15 - j).isLt
    omega
  rw [hab] at h
  have h' := decide_eq_decide.mp (h.trans (clean_bool ⟨min 16 (M x), by omega⟩ ⟨min 16 (N x), by omega⟩ k))
  rw [h']
  have := k.isLt
  show k.val < min 16 (min 16 (M x) + min 16 (N x)) ↔ k.val < min 16 (M x + N x)
  omega

/-- The least of the sixteen values two ranked families are joined to reaches a level exactly when sixteen values of the two
    families together do. -/
theorem le_least_iff {A B : Fin 16 → α} {M N : α → ℕ} (hA : Ranked A M) (hB : Ranked B N) (x : α) :
    (∀ k, x ≤ max (A k) (B (15 - k))) ↔ 16 ≤ M x + N x := by
  have h1 : (∀ k, x ≤ max (A k) (B (15 - k))) ↔ ∀ k : Fin 16, k.val < M x ∨ (15 - k).val < N x :=
    forall_congr' fun k => by rw [le_max_iff, hA x k, hB x _]
  have h2 : ∀ k : Fin 16, (15 - k).val = 15 - k.val := by decide
  rw [h1]
  constructor
  · intro h
    by_contra hlt
    have := h ⟨M x, by omega⟩
    rw [h2] at this
    simp at this
    omega
  · intro h k
    rw [h2]
    have := k.isLt
    omega

end Own
-- ==== Proof.Threshold.lean ====
module

public import proofs.«01_k».proof.Proof.Selection

/-! The row of thresholds the registers give: in each column it is the sixteenth greatest of the 512 entries, said as
    how many entries of the column reach a level. -/

@[expose] public section

noncomputable section

namespace Own

open Idealize.ShloMosaic
open Idealize.ShloMosaic.ValueIdx hiding ix2

/-- The sixteen register entries at one row and column. -/
def at16 {n : Nat} (S : Regs Ideal n) (r : Fin n) (c : Fin 512) : Fin 16 → EReal := fun k => S k (ix2 r c)

theorem at16_exchange {n : Nat} (S : Regs Ideal n) (p : Fin 16 × Fin 16) (r : Fin n) (c : Fin 512) :
    at16 (exchange S p) r c = exch (at16 S r c) p := by
  funext k
  unfold at16 exchange exch
  split_ifs <;> rfl

/-- Exchanging registers exchanges the entries at each row and column. -/
theorem at16_foldl {n : Nat} (ps : List (Fin 16 × Fin 16)) (S : Regs Ideal n) (r : Fin n) (c : Fin 512) :
    at16 (ps.foldl exchange S) r c = ps.foldl exch (at16 S r c) := by
  induction ps generalizing S with
  | nil => rfl
  | cons p ps ih => rw [List.foldl_cons, List.foldl_cons, ih, at16_exchange]

theorem at16_halve {m n : Nat} (S : Regs Ideal m) (hA : (⟨2, ![m, 512]⟩ : Shape).Slices ![0, 0] ⟨2, ![n, 512]⟩)
    (hB : (⟨2, ![m, 512]⟩ : Shape).Slices ![n, 0] ⟨2, ![n, 512]⟩) (hm : m = n + n) (r : Fin n) (c : Fin 512) :
    at16 (halve S hA hB) r c
      = fun k => max (at16 S ⟨r.val, by omega⟩ c k) (at16 S ⟨n + r.val, by omega⟩ c (15 - k)) := by
  funext k
  unfold at16 halve
  rw [maximumf_apply, extractStridedSlice_apply ![0, 0] (S k) hA (ix2 r c) (ix2 ⟨r.val, by omega⟩ c) (by
      intro a; fin_cases a <;> simp),
    extractStridedSlice_apply ![n, 0] (S (15 - k)) hB (ix2 r c) (ix2 ⟨n + r.val, by omega⟩ c) (by
      intro a; fin_cases a <;> simp)]

theorem at16_cut (w : FVec Ideal Cert.KernelIdeal.S512x512 .f32) (r : Fin 32) (c : Fin 512) (k : Fin 16) :
    at16 (cut w) r c k = w (ix2 ⟨32 * k.val + r.val, by omega⟩ c) := by
  unfold at16 cut
  exact extractStridedSlice_apply _ w _ (ix2 r c) (ix2 ⟨32 * k.val + r.val, by omega⟩ c) (by
      intro a; fin_cases a <;> simp)

/-- Two ranked halves of the rows, joined and cleaned, are ranked. -/
theorem ranked_halve {m n : Nat} (S : Regs Ideal m) (hA : (⟨2, ![m, 512]⟩ : Shape).Slices ![0, 0] ⟨2, ![n, 512]⟩)
    (hB : (⟨2, ![m, 512]⟩ : Shape).Slices ![n, 0] ⟨2, ![n, 512]⟩) (hm : m = n + n) (c : Fin 512) (N : ℕ → EReal → ℕ)
    (h : ∀ r : Fin m, Ranked (at16 S r c) (N r.val)) (r : Fin n) :
    Ranked (at16 (cleanPairs.foldl exchange (halve S hA hB)) r c) (fun x => min 16 (N r.val x + N (n + r.val) x)) := by
  rw [at16_foldl, at16_halve S hA hB hm]
  exact ranked_clean (h ⟨r.val, by omega⟩) (h ⟨n + r.val, by omega⟩)

/-- How many of the entries of column `c` in the rows `r`, `32 + r`, `64 + r`, … reach a level. -/
def count32 (w : FVec Ideal Cert.KernelIdeal.S512x512 .f32) (c : Fin 512) (r : ℕ) (x : EReal) : ℕ :=
  reach (fun k : Fin 16 => (if h : r < 32 then w (ix2 ⟨32 * k.val + r, by omega⟩ c) else 0 : EReal)) x

theorem ranked32 (w : FVec Ideal Cert.KernelIdeal.S512x512 .f32) (c : Fin 512) (r : Fin 32) :
    Ranked (at16 (sorted32 w) r c) (count32 w c r.val) := by
  unfold sorted32
  rw [at16_foldl]
  have h := ranked_sort (at16 (cut w) r c)
  have : at16 (cut w) r c
      = fun k : Fin 16 => (if h : r.val < 32 then w (ix2 ⟨32 * k.val + r.val, by omega⟩ c) else 0 : EReal) := by
    funext k
    rw [at16_cut, dif_pos r.isLt]
  rw [this] at h ⊢
  exact h

/-- The threshold of a column reaches a level exactly when sixteen entries of the column do, counted row class by row class. -/
theorem le_kthRow (w : FVec Ideal Cert.KernelIdeal.S512x512 .f32) (c : Fin 512) (x : EReal) :
    x ≤ kthRow w (ix2 0 c) ↔ 16 ≤ ∑ r ∈ Finset.range 32, count32 w c r x := by
  have h16 := ranked_halve (sorted32 w) (n := 16) (by decide) (by decide) rfl c (count32 w c) (ranked32 w c)
  have h8 := ranked_halve (sorted16 w) (n := 8) (by decide) (by decide) rfl c
    (fun r x => min 16 (count32 w c r x + count32 w c (16 + r) x)) h16
  have h4 := ranked_halve (sorted8 w) (n := 4) (by decide) (by decide) rfl c
    (fun r x => min 16 (min 16 (count32 w c r x + count32 w c (16 + r) x)
      + min 16 (count32 w c (8 + r) x + count32 w c (16 + (8 + r)) x))) h8
  have h2 := ranked_halve (sorted4 w) (n := 2) (by decide) (by decide) rfl c
    (fun r x => min 16 (min 16 (min 16 (count32 w c r x + count32 w c (16 + r) x)
      + min 16 (count32 w c (8 + r) x + count32 w c (16 + (8 + r)) x))
      + min 16 (min 16 (count32 w c (4 + r) x + count32 w c (16 + (4 + r)) x)
      + min 16 (count32 w c (8 + (4 + r)) x + count32 w c (16 + (8 + (4 + r))) x)))) h4
  have hl := le_least_iff (h2 0) (h2 1) x
  have hall : x ≤ kthRow w (ix2 0 c) ↔ ∀ k, x ≤ at16 (last1 w) 0 c k := by
    unfold kthRow
    simp only [List.foldl_cons, List.foldl_nil, minimumf_apply, le_min_iff, Fin.forall_fin_succ]
    unfold at16
    simp [and_assoc]
  rw [hall]
  have hj : at16 (last1 w) 0 c = _ := at16_halve (sorted2 w) (n := 1) (by decide) (by decide) rfl 0 c
  rw [hj]
  refine Iff.trans hl ?_
  have hmin : ∀ a b : ℕ, min 16 (min 16 a + min 16 b) = min 16 (a + b) := by omega
  have hmin' : ∀ a b : ℕ, 16 ≤ min 16 a + min 16 b ↔ 16 ≤ a + b := by omega
  simp only [hmin, hmin', Fin.val_zero, Fin.val_one]
  simp only [Finset.sum_range_succ, Finset.sum_range_zero]
  norm_num
  constructor <;> intro h <;> omega

/-- The row classes together are the whole column. -/
theorem sum_count32 (w : FVec Ideal Cert.KernelIdeal.S512x512 .f32) (c : Fin 512) (x : EReal) :
    ∑ r ∈ Finset.range 32, count32 w c r x = reach (fun i : Fin 512 => (w (ix2 i c) : EReal)) x := by
  have h1 : ∀ r : Fin 32, count32 w c r.val x
      = ∑ k : Fin 16, if x ≤ (w (ix2 ⟨32 * k.val + r.val, by omega⟩ c) : EReal) then 1 else 0 := by
    intro r
    unfold count32 reach
    rw [Finset.card_filter]
    simp only [r.isLt, dif_pos]
  rw [Finset.sum_range, Finset.sum_congr rfl fun r _ => h1 r, Finset.sum_comm]
  unfold reach
  rw [Finset.card_filter, ← Fintype.sum_prod_type',
    ← (finProdFinEquiv (m := 16) (n := 32)).sum_comp fun i : Fin (16 * 32) => if x ≤ (w (ix2 i c) : EReal) then 1 else 0]
  refine Finset.sum_congr rfl fun p _ => ?_
  have : (⟨32 * p.1.val + p.2.val, by omega⟩ : Fin 512) = finProdFinEquiv (m := 16) (n := 32) p := by
    apply Fin.ext
    show 32 * p.1.val + p.2.val = p.2.val + 32 * p.1.val
    omega
  rw [this]

/-- THE THRESHOLD OF A COLUMN: it reaches a level exactly when at least sixteen of the 512 entries of the column do. -/
theorem le_kthRow_iff (w : FVec Ideal Cert.KernelIdeal.S512x512 .f32) (c : Fin 512) (x : EReal) :
    x ≤ kthRow w (ix2 0 c) ↔ 16 ≤ reach (fun i : Fin 512 => (w (ix2 i c) : EReal)) x := by
  rw [le_kthRow, sum_count32]

end Own
-- ==== Proof.Blocks.lean ====
module

public import proofs.«01_k».proof.Proof.Registers

/-! What the body of the kernel stores, said block by block: the four batch elements of a point's block are treated alike,
    so each store is one function of that element's slab of the scratch buffers and of the point's bilinear matrix. -/

@[expose] public section

set_option maxRecDepth 16384
set_option maxHeartbeats 4000000

noncomputable section

namespace Own

open Idealize.ShloMosaic Idealize.ShloMosaic.TcCoe Idealize.ShloMosaic.Tactic
open Cert.KernelIdeal Cert.KernelIdeal.Gen

variable {F : FTy → Type} [FloatOps F] [Named F]

/-- The adjacency of one batch element at one lag, chained with the entries `q` kept from the earlier lags. -/
def chained (p : Vec F S1x512x256 .f32) (bil : Vec F S1x256x256 .f32) (q : Vec F S1x512x512 .f32) : FVec F S512x512 .f32 :=
  minimumf
    (select (cmpf .oge (k0_pay12 p bil) (broadcastTo S512x512 (kthRow (k0_pay12 p bil)) broadcasts_S1x512_S512x512)) (k0_pay12 p bil)
      (broadcast S512x512 (Scalar.ofBits .f32 0x00000000#32)))
    (shapeCast S512x512 q shapeCasts_S1x512x512_S512x512)

/-- One slab of the projections' scratch buffer. -/
abbrev rect256 (k : Fin 4) : Rect S4x512x256 := Rect.unit ![k.val, 0, 0] S1x512x256.size (by revert k; decide)

/-- One slab of the scratch buffer of the entries kept from the earlier lags. -/
abbrev rect512 (k : Fin 4) : Rect S4x512x512 := Rect.unit ![k.val, 0, 0] S1x512x512.size (by revert k; decide)

/-- One batch element of an output block. -/
abbrev rectOut (k : Fin 4) : Rect S1x4x512x512 := Rect.unit ![0, k.val, 0, 0] S1x1x512x512.size (by revert k; decide)

/-- The whole bilinear block. -/
abbrev rectBil : Rect S1x256x256 := Rect.unit ![0, 0, 0] S1x256x256.size inb_S1x256x256_S1x256x256_0_0_0

/-- Four stores, one per batch element of an output block (last first). -/
def storesOut (f : Fin 4 → FVec F S1x1x512x512 .f32) : List (View.Piece (Elt F) S1x4x512x512 .f32) :=
  [⟨rectOut 3, f 3⟩, ⟨rectOut 2, f 2⟩, ⟨rectOut 1, f 1⟩, ⟨rectOut 0, f 0⟩]

/-- Four stores, one per slab of the projections' scratch buffer (last first). -/
def stores256 (f : Fin 4 → FVec F S1x512x256 .f32) : List (View.Piece (Elt F) S4x512x256 .f32) :=
  [⟨rect256 3, f 3⟩, ⟨rect256 2, f 2⟩, ⟨rect256 1, f 1⟩, ⟨rect256 0, f 0⟩]

/-- Stores to the first `n` slabs of the scratch buffer of the kept entries, over earlier stores `L` (last first). -/
def stores512 (f : Fin 4 → FVec F S1x512x512 .f32) (L : List (View.Piece (Elt F) S4x512x512 .f32)) :
    ℕ → List (View.Piece (Elt F) S4x512x512 .f32)
  | 0 => L
  | n + 1 => ⟨rect512 (Fin.ofNat 4 n), f (Fin.ofNat 4 n)⟩ :: stores512 f L n

/-- The projections of one batch element: the hyperbolic tangent of its rows times the weights plus the bias. -/
def projected (z : Vec F S1x512x512 .f32) (W : Vec F S256x512 .f32) (b : Vec F S1x256 .f32) : FVec F S512x256 .f32 :=
  tanh (addf (k0_pay6 z W) (broadcastTo S512x256 (shapeCast S1x256 b shapeCasts_S1x256_S1x256) broadcasts_S1x256_S512x256))

/-- At the first lag: the stores to the scratch of the kept entries after `n` batch elements, the first store of all being the
    fill with infinity, and each element reading back what the stores before it left in its slab (last first). -/
def keptStores (v : View sig .tc .vmem S4x512x512 .f32) (p : Fin 4 → Vec F S1x512x256 .f32) (bil : Vec F S1x256x256 .f32) :
    ℕ → List (View.Piece (Elt F) S4x512x512 .f32)
  | 0 => [⟨Rect.unit ![0, 0, 0] S4x512x512.size inb_S4x512x512_S4x512x512_0_0_0, k0_pay9⟩]
  | n + 1 => ⟨rect512 (Fin.ofNat 4 n), shapeCast S1x512x512 (chained (p (Fin.ofNat 4 n)) bil
      (v.readCov (keptStores v p bil n) (rect512 (Fin.ofNat 4 n)).toLoadRect)) shapeCasts_S512x512_S1x512x512⟩ :: keptStores v p bil n

end Own
-- ==== Proof.Pieces.lean ====
module

public import proofs.«01_k».proof.Proof.Blocks

/-! What each point of the grid leaves, as a list of stores: the body's own lists, said with the functions of `Blocks`. -/

@[expose] public section

set_option maxRecDepth 16384
set_option maxHeartbeats 4000000

noncomputable section

namespace Own

open Idealize.ShloMosaic Idealize.ShloMosaic.TcCoe Idealize.ShloMosaic.Tactic
open Cert.KernelIdeal Cert.KernelIdeal.Gen

variable {F : FTy → Type} [FloatOps F] [Named F]
variable (c : Dev nD) (i : grid0.Coords) (arg2 : Memref sig .tc .vmem S4x512x512 .f32) (harg2 : arg2.IsWhole)
  (arg3 : Memref sig .tc .vmem S256x512 .f32) (harg3 : arg3.IsWhole) (arg4 : Memref sig .tc .vmem S1x256 .f32) (harg4 : arg4.IsWhole)
  (arg5 : Memref sig .tc .vmem S1x256x256 .f32) (harg5 : arg5.IsWhole) (arg6 : Memref sig .tc .vmem S1x4x512x512 .f32) (harg6 : arg6.IsWhole)
  (arg7 : Memref sig .tc .vmem S1x4x512x512 .f32) (harg7 : arg7.IsWhole) (arg8 : Memref sig .tc .vmem S4x512x256 .f32) (harg8 : arg8.IsWhole)
  (arg9 : Memref sig .tc .vmem S4x512x512 .f32) (harg9 : arg9.IsWhole)
  (x0 : Vec F S4x512x512 .f32) (x1 : Vec F S256x512 .f32) (x2 : Vec F S1x256 .f32) (x3 : Vec F S1x256x256 .f32)
  (xs0 : Vec F S4x512x256 .f32) (xs1 : Vec F S4x512x512 .f32)

/-- A later lag stores, for each batch element, the adjacency chained with the kept entries. -/
theorem later_adj (hc0 : ¬ cond0_0 i) :
    (kernelRun0_B c i arg2 harg2 arg3 harg3 arg4 harg4 arg5 harg5 arg6 harg6 arg7 harg7 arg8 harg8 arg9 harg9 hc0 x0 x1 x2 x3 xs0 xs1).1
      = storesOut fun k => shapeCast S1x1x512x512 (chained (View.readAt (Elt F) arg8.view (rect256 k).toLoadRect (harg8.unread xs0))
          (View.readAt (Elt F) arg5.view rectBil.toLoadRect (harg5.unread x3))
          (View.readAt (Elt F) arg9.view (rect512 k).toLoadRect (harg9.unread xs1))) shapeCasts_S512x512_S1x1x512x512 := by
  sl_kernel_rfl

/-- A later lag stores each batch element's logits. -/
theorem later_logits (hc0 : ¬ cond0_0 i) :
    (kernelRun0_B c i arg2 harg2 arg3 harg3 arg4 harg4 arg5 harg5 arg6 harg6 arg7 harg7 arg8 harg8 arg9 harg9 hc0 x0 x1 x2 x3 xs0 xs1).2.1
      = storesOut fun k => shapeCast S1x1x512x512 (k0_pay10 (View.readAt (Elt F) arg8.view (rect256 k).toLoadRect (harg8.unread xs0))
          (View.readAt (Elt F) arg5.view rectBil.toLoadRect (harg5.unread x3))) shapeCasts_S512x512_S1x1x512x512 := by
  sl_kernel_rfl

/-- A later lag keeps what it stores as the adjacency. -/
theorem later_kept (hc0 : ¬ cond0_0 i) :
    (kernelRun0_B c i arg2 harg2 arg3 harg3 arg4 harg4 arg5 harg5 arg6 harg6 arg7 harg7 arg8 harg8 arg9 harg9 hc0 x0 x1 x2 x3 xs0 xs1).2.2.2.1
      = stores512 (fun k => shapeCast S1x512x512 (chained (View.readAt (Elt F) arg8.view (rect256 k).toLoadRect (harg8.unread xs0))
          (View.readAt (Elt F) arg5.view rectBil.toLoadRect (harg5.unread x3))
          (View.readAt (Elt F) arg9.view (rect512 k).toLoadRect (harg9.unread xs1))) shapeCasts_S512x512_S1x512x512) [] 4 := by
  sl_kernel_rfl

/-- The stores of the projections at the first lag. -/
def projStores : List (View.Piece (Elt F) S4x512x256 .f32) :=
  stores256 fun k => shapeCast S1x512x256 (projected (View.readAt (Elt F) arg2.view (rect512 k).toLoadRect (harg2.unread x0))
    (View.readAt (Elt F) arg3.view (Rect.unit ![0, 0] S256x512.size inb_S256x512_S256x512_0_0).toLoadRect (harg3.unread x1))
    (View.readAt (Elt F) arg4.view (Rect.unit ![0, 0] S1x256.size inb_S1x256_S1x256_0_0).toLoadRect (harg4.unread x2)))
    shapeCasts_S512x256_S1x512x256

/-- The first lag stores each batch element's projections. -/
theorem first_proj (hc0 : cond0_0 i) :
    (kernelRun0_A c i arg2 harg2 arg3 harg3 arg4 harg4 arg5 harg5 arg6 harg6 arg7 harg7 arg8 harg8 arg9 harg9 hc0 x0 x1 x2 x3).2.2.1
      = projStores arg2 harg2 arg3 harg3 arg4 harg4 x0 x1 x2 := by
  sl_kernel_rfl

/-- The first lag stores each batch element's logits, from the projections read back. -/
theorem first_logits (hc0 : cond0_0 i) :
    (kernelRun0_A c i arg2 harg2 arg3 harg3 arg4 harg4 arg5 harg5 arg6 harg6 arg7 harg7 arg8 harg8 arg9 harg9 hc0 x0 x1 x2 x3).2.1
      = storesOut fun k => shapeCast S1x1x512x512
          (k0_pay10 (arg8.view.readCov (projStores arg2 harg2 arg3 harg3 arg4 harg4 x0 x1 x2) (rect256 k).toLoadRect)
            (View.readAt (Elt F) arg5.view rectBil.toLoadRect (harg5.unread x3))) shapeCasts_S512x512_S1x1x512x512 := by
  sl_kernel_rfl

/-- The first lag keeps, over the fill, what it stores as the adjacency. -/
theorem first_kept (hc0 : cond0_0 i) :
    (kernelRun0_A c i arg2 harg2 arg3 harg3 arg4 harg4 arg5 harg5 arg6 harg6 arg7 harg7 arg8 harg8 arg9 harg9 hc0 x0 x1 x2 x3).2.2.2.1
      = keptStores arg9.view (fun k => arg8.view.readCov (projStores arg2 harg2 arg3 harg3 arg4 harg4 x0 x1 x2) (rect256 k).toLoadRect)
          (View.readAt (Elt F) arg5.view rectBil.toLoadRect (harg5.unread x3)) 4 := by
  sl_kernel_rfl

/-- The first lag stores, for each batch element, the adjacency chained with what its slab holds then. -/
theorem first_adj (hc0 : cond0_0 i) :
    (kernelRun0_A c i arg2 harg2 arg3 harg3 arg4 harg4 arg5 harg5 arg6 harg6 arg7 harg7 arg8 harg8 arg9 harg9 hc0 x0 x1 x2 x3).1
      = storesOut fun k => shapeCast S1x1x512x512
          (chained (arg8.view.readCov (projStores arg2 harg2 arg3 harg3 arg4 harg4 x0 x1 x2) (rect256 k).toLoadRect)
            (View.readAt (Elt F) arg5.view rectBil.toLoadRect (harg5.unread x3))
            (arg9.view.readCov (keptStores arg9.view
              (fun k => arg8.view.readCov (projStores arg2 harg2 arg3 harg3 arg4 harg4 x0 x1 x2) (rect256 k).toLoadRect)
              (View.readAt (Elt F) arg5.view rectBil.toLoadRect (harg5.unread x3)) k.val) (rect512 k).toLoadRect))
          shapeCasts_S512x512_S1x1x512x512 := by
  sl_kernel_rfl

end Own
-- ==== Proof.Contents.lean ====
module

public import proofs.«01_k».proof.Proof.Pieces
public import Idealize.ShloMosaic.Lib.Pointwise.Index

/-! What each point of the grid leaves, as arrays: the stores of `Pieces` read back. -/

@[expose] public section

set_option maxRecDepth 16384
set_option maxHeartbeats 4000000

noncomputable section

namespace Own

open Idealize.ShloMosaic Idealize.ShloMosaic.TcCoe Idealize.ShloMosaic.Tactic
open Cert.KernelIdeal Cert.KernelIdeal.Gen

variable {F : FTy → Type} [FloatOps F] [Named F]

/-! ## Reading four slabs -/

/-- Slab `k` of an array of four slabs of 512 by 256. -/
def slab256 (X : Vec F S4x512x256 .f32) (k : Fin 4) : Vec F S1x512x256 .f32 := fun j => X (ix3 k (j 1) (j 2))

/-- Slab `k` of an array of four slabs of 512 by 512. -/
def slab512 (X : Vec F S4x512x512 .f32) (k : Fin 4) : Vec F S1x512x512 .f32 := fun j => X (ix3 k (j 1) (j 2))

/-- Four matrices as an output block. -/
def blockOut (f : Fin 4 → FVec F S512x512 .f32) : Vec F S1x4x512x512 .f32 := fun j => f (j 1) (ix2 (j 2) (j 3))

/-- Four matrices of 512 by 256 as an array of four slabs. -/
def stack256 (f : Fin 4 → FVec F S512x256 .f32) : Vec F S4x512x256 .f32 := fun j => f (j 0) (ix2 (j 1) (j 2))

/-- Four matrices of 512 by 512 as an array of four slabs. -/
def stack512 (f : Fin 4 → FVec F S512x512 .f32) : Vec F S4x512x512 .f32 := fun j => f (j 0) (ix2 (j 1) (j 2))

/-- The indices of slab `k` of the projections' scratch. -/
theorem idx256 (k : Fin 4) (j : S1x512x256.Idx) : (rect256 k).idx j = ix3 k (j 1) (j 2) := by
  funext a; apply Fin.ext
  match a with
  | ⟨0, _⟩ => show k.val + 1 * (j 0).val = k.val; have : (j 0).val < 1 := (j 0).isLt; omega
  | ⟨1, _⟩ => show 0 + 1 * (j 1).val = (j 1).val; omega
  | ⟨2, _⟩ => show 0 + 1 * (j 2).val = (j 2).val; omega

/-- The indices of slab `k` of the kept entries' scratch. -/
theorem idx512 (k : Fin 4) (j : S1x512x512.Idx) : (rect512 k).idx j = ix3 k (j 1) (j 2) := by
  funext a; apply Fin.ext
  match a with
  | ⟨0, _⟩ => show k.val + 1 * (j 0).val = k.val; have : (j 0).val < 1 := (j 0).isLt; omega
  | ⟨1, _⟩ => show 0 + 1 * (j 1).val = (j 1).val; omega
  | ⟨2, _⟩ => show 0 + 1 * (j 2).val = (j 2).val; omega

/-- The indices of batch element `k` of an output block. -/
theorem idxOut (k : Fin 4) (j : S1x1x512x512.Idx) : (rectOut k).idx j = ix4 0 k (j 2) (j 3) := by
  funext a; apply Fin.ext
  match a with
  | ⟨0, _⟩ => show 0 + 1 * (j 0).val = 0; have : (j 0).val < 1 := (j 0).isLt; omega
  | ⟨1, _⟩ => show k.val + 1 * (j 1).val = k.val; have : (j 1).val < 1 := (j 1).isLt; omega
  | ⟨2, _⟩ => show 0 + 1 * (j 2).val = (j 2).val; omega
  | ⟨3, _⟩ => show 0 + 1 * (j 3).val = (j 3).val; omega

/-- Different slabs of the projections' scratch are apart. -/
theorem apart256 (k l : Fin 4) (h : k ≠ l) (r : Fin 512) (q : Fin 256) : (ix3 k r q : S4x512x256.Idx) ∉ (rect256 l).set := by
  rw [Rect.mem_set_unit]
  intro H
  have := H (0 : Fin 3)
  have h0 : l.val ≤ k.val ∧ k.val < l.val + 1 := this
  exact h (Fin.ext (by omega))

/-- Different slabs of the kept entries' scratch are apart. -/
theorem apart512 (k l : Fin 4) (h : k ≠ l) (r q : Fin 512) : (ix3 k r q : S4x512x512.Idx) ∉ (rect512 l).set := by
  rw [Rect.mem_set_unit]
  intro H
  have := H (0 : Fin 3)
  have h0 : l.val ≤ k.val ∧ k.val < l.val + 1 := this
  exact h (Fin.ext (by omega))

/-- Different batch elements of an output block are apart. -/
theorem apartOut (k l : Fin 4) (h : k ≠ l) (r q : Fin 512) : (ix4 0 k r q : S1x4x512x512.Idx) ∉ (rectOut l).set := by
  rw [Rect.mem_set_unit]
  intro H
  have := H (1 : Fin 4)
  have h0 : l.val ≤ k.val ∧ k.val < l.val + 1 := this
  exact h (Fin.ext (by omega))

/-- A store is read at the places it was made. -/
theorem canon_hit {s : Shape} (R : Rect s) (w : R.shape.Idx → Elt F .f32) (L : List (View.Piece (Elt F) s .f32)) (x : R.shape.Idx)
    (y : s.Idx) (h : R.idx x = y) : View.canon (⟨R, w⟩ :: L) y = w x := by
  subst h; exact View.canon_cons_emb R w L x

/-- A store is not read elsewhere. -/
theorem canon_miss {s : Shape} (R : Rect s) (w : R.shape.Idx → Elt F .f32) (L : List (View.Piece (Elt F) s .f32)) (y : s.Idx)
    (h : y ∉ R.set) : View.canon (⟨R, w⟩ :: L) y = View.canon L y :=
  View.canon_cons_of_not_mem ⟨R, w⟩ L h

/-- A store to part `k` of the projections' scratch is read there. -/
theorem canon256_hit (k : Fin 4) (w : FVec F S1x512x256 .f32) (L : List (View.Piece (Elt F) S4x512x256 .f32)) (r : Fin 512) (q : Fin 256) :
    View.canon (⟨rect256 k, w⟩ :: L) (ix3 k r q : S4x512x256.Idx) = w (ix3 0 r q) :=
  canon_hit (rect256 k) w L (ix3 0 r q : S1x512x256.Idx) _ (idx256 k (ix3 0 r q))

/-- A store to another part of the projections' scratch is not read in part `k`. -/
theorem canon256_miss (k l : Fin 4) (h : k ≠ l) (w : FVec F S1x512x256 .f32) (L : List (View.Piece (Elt F) S4x512x256 .f32)) (r : Fin 512) (q : Fin 256) :
    View.canon (⟨rect256 l, w⟩ :: L) (ix3 k r q : S4x512x256.Idx) = View.canon L (ix3 k r q : S4x512x256.Idx) :=
  canon_miss (rect256 l) w L _ (apart256 k l h r q)

/-- A store to part `k` of the kept entries' scratch is read there. -/
theorem canon512_hit (k : Fin 4) (w : FVec F S1x512x512 .f32) (L : List (View.Piece (Elt F) S4x512x512 .f32)) (r q : Fin 512) :
    View.canon (⟨rect512 k, w⟩ :: L) (ix3 k r q : S4x512x512.Idx) = w (ix3 0 r q) :=
  canon_hit (rect512 k) w L (ix3 0 r q : S1x512x512.Idx) _ (idx512 k (ix3 0 r q))

/-- A store to another part of the kept entries' scratch is not read in part `k`. -/
theorem canon512_miss (k l : Fin 4) (h : k ≠ l) (w : FVec F S1x512x512 .f32) (L : List (View.Piece (Elt F) S4x512x512 .f32)) (r q : Fin 512) :
    View.canon (⟨rect512 l, w⟩ :: L) (ix3 k r q : S4x512x512.Idx) = View.canon L (ix3 k r q : S4x512x512.Idx) :=
  canon_miss (rect512 l) w L _ (apart512 k l h r q)

/-- A store to part `k` of an output block is read there. -/
theorem canonOut_hit (k : Fin 4) (w : FVec F S1x1x512x512 .f32) (L : List (View.Piece (Elt F) S1x4x512x512 .f32)) (r q : Fin 512) :
    View.canon (⟨rectOut k, w⟩ :: L) (ix4 0 k r q : S1x4x512x512.Idx) = w (ix4 0 0 r q) :=
  canon_hit (rectOut k) w L (ix4 0 0 r q : S1x1x512x512.Idx) _ (idxOut k (ix4 0 0 r q))

/-- A store to another part of an output block is not read in part `k`. -/
theorem canonOut_miss (k l : Fin 4) (h : k ≠ l) (w : FVec F S1x1x512x512 .f32) (L : List (View.Piece (Elt F) S1x4x512x512 .f32)) (r q : Fin 512) :
    View.canon (⟨rectOut l, w⟩ :: L) (ix4 0 k r q : S1x4x512x512.Idx) = View.canon L (ix4 0 k r q : S1x4x512x512.Idx) :=
  canon_miss (rectOut l) w L _ (apartOut k l h r q)

/-- The four stores to the projections' scratch leave slab `k` what was stored there. -/
theorem canon_stores256 (f : Fin 4 → FVec F S1x512x256 .f32) (k : Fin 4) (r : Fin 512) (q : Fin 256) :
    View.canon (stores256 f) (ix3 k r q : S4x512x256.Idx) = f k (ix3 0 r q) := by
  unfold stores256
  by_cases h3 : k = 3
  · subst h3; exact canon256_hit 3 (f 3) _ r q
  refine (canon256_miss k 3 h3 (f 3) _ r q).trans ?_
  by_cases h2 : k = 2
  · subst h2; exact canon256_hit 2 (f 2) _ r q
  refine (canon256_miss k 2 h2 (f 2) _ r q).trans ?_
  by_cases h1 : k = 1
  · subst h1; exact canon256_hit 1 (f 1) _ r q
  refine (canon256_miss k 1 h1 (f 1) _ r q).trans ?_
  have h0 : k = 0 := Fin.ext (by have := k.isLt; have a1 : k.val ≠ 1 := fun h => h1 (Fin.ext h); have a2 : k.val ≠ 2 := fun h => h2 (Fin.ext h); have a3 : k.val ≠ 3 := fun h => h3 (Fin.ext h); show k.val = 0; omega)
  subst h0
  exact canon256_hit 0 (f 0) _ r q

/-- The four stores to an output block leave batch element `k` what was stored there. -/
theorem canon_storesOut (f : Fin 4 → FVec F S1x1x512x512 .f32) (k : Fin 4) (r q : Fin 512) :
    View.canon (storesOut f) (ix4 0 k r q : S1x4x512x512.Idx) = f k (ix4 0 0 r q) := by
  unfold storesOut
  by_cases h3 : k = 3
  · subst h3; exact canonOut_hit 3 (f 3) _ r q
  refine (canonOut_miss k 3 h3 (f 3) _ r q).trans ?_
  by_cases h2 : k = 2
  · subst h2; exact canonOut_hit 2 (f 2) _ r q
  refine (canonOut_miss k 2 h2 (f 2) _ r q).trans ?_
  by_cases h1 : k = 1
  · subst h1; exact canonOut_hit 1 (f 1) _ r q
  refine (canonOut_miss k 1 h1 (f 1) _ r q).trans ?_
  have h0 : k = 0 := Fin.ext (by have := k.isLt; have a1 : k.val ≠ 1 := fun h => h1 (Fin.ext h); have a2 : k.val ≠ 2 := fun h => h2 (Fin.ext h); have a3 : k.val ≠ 3 := fun h => h3 (Fin.ext h); show k.val = 0; omega)
  subst h0
  exact canonOut_hit 0 (f 0) _ r q

/-- The slab written to at step `n` of the kept entries' scratch. -/
theorem ofNat_four (n : ℕ) (h : n < 4) : Fin.ofNat 4 n = ⟨n, h⟩ := Fin.ext (Nat.mod_eq_of_lt h)

/-- Stores to the first `n` slabs leave each of those slabs what was stored there. -/
theorem canon_stores512 (f : Fin 4 → FVec F S1x512x512 .f32) (L : List (View.Piece (Elt F) S4x512x512 .f32)) (k : Fin 4)
    (r q : Fin 512) : ∀ n : ℕ, n ≤ 4 → k.val < n → View.canon (stores512 f L n) (ix3 k r q : S4x512x512.Idx) = f k (ix3 0 r q) := by
  intro n
  induction n with
  | zero => intro _ h; omega
  | succ n ih =>
    intro hn hk
    unfold stores512
    rw [ofNat_four n hn]
    by_cases e : k = ⟨n, hn⟩
    · subst e; exact canon512_hit _ _ _ r q
    · refine (canon512_miss k ⟨n, hn⟩ e _ _ r q).trans ?_
      have : k.val ≠ n := fun h => e (Fin.ext h)
      exact ih (by omega) (by omega)

variable (v : View sig .tc .vmem S4x512x512 .f32) (p : Fin 4 → Vec F S1x512x256 .f32) (bil : Vec F S1x256x256 .f32)

/-- The scratch filled with infinity. -/
def filled : Vec F S4x512x512 .f32 := k0_pay9

/-- At the first lag, a slab not yet stored to holds the fill. -/
theorem canon_kept_fill (k : Fin 4) (r q : Fin 512) : ∀ n : ℕ, n ≤ k.val →
    View.canon (keptStores v p bil n) (ix3 k r q : S4x512x512.Idx) = (filled : Vec F S4x512x512 .f32) (ix3 k r q) := by
  intro n
  induction n with
  | zero =>
    intro _
    exact congrFun (View.canon_unit_zero (S := S4x512x512) (Val := Elt F) (e := .f32)
      (by funext a; match a with | ⟨0, _⟩ => rfl | ⟨1, _⟩ => rfl | ⟨2, _⟩ => rfl) inb_S4x512x512_S4x512x512_0_0_0 k0_pay9) _
  | succ n ih =>
    intro hn
    have h4 : n < 4 := by omega
    unfold keptStores
    rw [ofNat_four n h4]
    refine (canon512_miss k ⟨n, h4⟩ (fun e => ?_) _ _ r q).trans (ih (by omega))
    have := congrArg Fin.val e
    simp only at this
    omega

/-- At the first lag, what a batch element reads back from its slab is the fill. -/
theorem readCov_kept (k : Fin 4) : v.readCov (keptStores v p bil k.val) (rect512 k).toLoadRect = slab512 (filled : Vec F S4x512x512 .f32) k := by
  rw [View.readCov_eq_canon']
  funext j
  exact (congrArg _ (idx512 k j)).trans (canon_kept_fill v p bil k (j 1) (j 2) k.val le_rfl)

/-- At the first lag, a slab stored to holds the element's adjacency chained with the fill. -/
theorem canon_kept (k : Fin 4) (r q : Fin 512) : ∀ n : ℕ, n ≤ 4 → k.val < n →
    View.canon (keptStores v p bil n) (ix3 k r q : S4x512x512.Idx)
      = shapeCast S1x512x512 (chained (p k) bil (slab512 filled k)) shapeCasts_S512x512_S1x512x512 (ix3 0 r q) := by
  intro n
  induction n with
  | zero => intro _ h; omega
  | succ n ih =>
    intro hn hk
    unfold keptStores
    rw [ofNat_four n hn]
    by_cases e : k = ⟨n, hn⟩
    · subst e
      refine (canon512_hit _ _ _ r q).trans ?_
      exact congrArg (fun X => shapeCast S1x512x512 (chained (p ⟨n, hn⟩) bil X) shapeCasts_S512x512_S1x512x512 (ix3 0 r q))
        (readCov_kept v p bil ⟨n, hn⟩)
    · refine (canon512_miss k ⟨n, hn⟩ e _ _ r q).trans ?_
      have : k.val ≠ n := fun h => e (Fin.ext h)
      exact ih (by omega) (by omega)

end Own
-- ==== Proof.States.lean ====
module

public import proofs.«01_k».proof.Proof.Contents
public import Idealize.ShloMosaic.Lib.Pointwise

/-! The arrays a point of the grid leaves: at a later lag over what the point before left, at the first lag from the inputs alone. -/

@[expose] public section

set_option maxRecDepth 16384
set_option maxHeartbeats 4000000

noncomputable section

namespace Own

open Idealize.ShloMosaic Idealize.ShloMosaic.TcCoe Idealize.ShloMosaic.Tactic
open Cert.KernelIdeal Cert.KernelIdeal.Gen

variable {F : FTy → Type} [FloatOps F] [Named F]

/-- A matrix stored as a batch element of an output block, read at an entry. -/
theorem cast_out (f : FVec F S512x512 .f32) (r q : Fin 512) :
    shapeCast S1x1x512x512 f shapeCasts_S512x512_S1x1x512x512 (ix4 0 0 r q) = f (ix2 r q) := by
  pointwise

/-- A matrix stored as a slab, read at an entry. -/
theorem cast_slab512 (f : FVec F S512x512 .f32) (r q : Fin 512) :
    shapeCast S1x512x512 f shapeCasts_S512x512_S1x512x512 (ix3 0 r q) = f (ix2 r q) := by
  pointwise

/-- A matrix of 512 by 256 stored as a slab, read at an entry. -/
theorem cast_slab256 (f : FVec F S512x256 .f32) (r : Fin 512) (q : Fin 256) :
    shapeCast S1x512x256 f shapeCasts_S512x256_S1x512x256 (ix3 0 r q) = f (ix2 r q) := by
  pointwise

/-- Every index of an output block. -/
theorem eq_out (j : S1x4x512x512.Idx) : j = ix4 0 (j 1) (j 2) (j 3) := by
  funext a; apply Fin.ext
  match a with
  | ⟨0, _⟩ => show (j 0).val = 0; have : (j 0).val < 1 := (j 0).isLt; omega
  | ⟨1, _⟩ => rfl
  | ⟨2, _⟩ => rfl
  | ⟨3, _⟩ => rfl

/-- Four matrices stored to an output block. -/
theorem canon_out (f : Fin 4 → FVec F S512x512 .f32) :
    View.canon (storesOut fun k => shapeCast S1x1x512x512 (f k) shapeCasts_S512x512_S1x1x512x512) = blockOut f := by
  funext j
  rw [eq_out j]
  exact (canon_storesOut _ (j 1) (j 2) (j 3)).trans (cast_out (f (j 1)) (j 2) (j 3))

/-- Four matrices stored to the kept entries' scratch. -/
theorem canon_512 (f : Fin 4 → FVec F S512x512 .f32) :
    View.canon (stores512 (fun k => shapeCast S1x512x512 (f k) shapeCasts_S512x512_S1x512x512) [] 4) = stack512 f := by
  funext j
  rw [eq_ix3 j]
  exact (canon_stores512 _ _ (j 0) (j 1) (j 2) 4 le_rfl (j 0).isLt).trans (cast_slab512 (f (j 0)) (j 1) (j 2))

/-- Four matrices stored to the projections' scratch. -/
theorem canon_256 (f : Fin 4 → FVec F S512x256 .f32) :
    View.canon (stores256 (fun k => shapeCast S1x512x256 (f k) shapeCasts_S512x256_S1x512x256)) = stack256 f := by
  funext j
  rw [eq_ix3 j]
  exact (canon_stores256 _ (j 0) (j 1) (j 2)).trans (cast_slab256 (f (j 0)) (j 1) (j 2))

/-- The first lag's stores to the kept entries' scratch. -/
theorem canon_keptAll (v : View sig .tc .vmem S4x512x512 .f32) (p : Fin 4 → Vec F S1x512x256 .f32) (bil : Vec F S1x256x256 .f32) :
    View.canon (keptStores v p bil 4) = stack512 fun k => chained (p k) bil (slab512 filled k) := by
  funext j
  rw [eq_ix3 j]
  exact (canon_kept v p bil (j 0) (j 1) (j 2) 4 le_rfl (j 0).isLt).trans (cast_slab512 _ (j 1) (j 2))

/-- A slab of the projections' scratch, loaded. -/
theorem load256 (a : Memref sig .tc .vmem S4x512x256 .f32) (ha : a.IsWhole) (X : Vec F S4x512x256 .f32) (k : Fin 4) :
    View.readAt (Elt F) a.view (rect256 k).toLoadRect (ha.unread X) = slab256 X k := by
  rw [View.readAt_eq_ld, ha.read_unread]
  funext j
  exact congrArg X (idx256 k j)

/-- A slab of the kept entries' scratch or of the input block, loaded. -/
theorem load512 (a : Memref sig .tc .vmem S4x512x512 .f32) (ha : a.IsWhole) (X : Vec F S4x512x512 .f32) (k : Fin 4) :
    View.readAt (Elt F) a.view (rect512 k).toLoadRect (ha.unread X) = slab512 X k := by
  rw [View.readAt_eq_ld, ha.read_unread]
  funext j
  exact congrArg X (idx512 k j)

/-- A whole array, loaded. -/
theorem loadWhole {s : Shape} (a : Memref sig .tc .vmem s .f32) (ha : a.IsWhole) (X : Vec F s .f32) (off : Fin s.rank → ℕ)
    (h : off = fun _ => 0) (inb : ∀ x, off x + s.size x ≤ s.size x) :
    View.readAt (Elt F) a.view (Rect.unit off s.size inb).toLoadRect (ha.unread X) = X := by
  rw [View.readAt_eq_ld, ha.read_unread]
  exact View.ld_unit_zero h inb X

/-- The bilinear block, loaded. -/
theorem loadBil (a : Memref sig .tc .vmem S1x256x256 .f32) (ha : a.IsWhole) (X : Vec F S1x256x256 .f32) :
    View.readAt (Elt F) a.view rectBil.toLoadRect (ha.unread X) = X :=
  loadWhole a ha X _ (by funext x; match x with | ⟨0, _⟩ => rfl | ⟨1, _⟩ => rfl | ⟨2, _⟩ => rfl) _

variable (c : Dev nD) (i : grid0.Coords) (arg2 : Memref sig .tc .vmem S4x512x512 .f32) (harg2 : arg2.IsWhole)
  (arg3 : Memref sig .tc .vmem S256x512 .f32) (harg3 : arg3.IsWhole) (arg4 : Memref sig .tc .vmem S1x256 .f32) (harg4 : arg4.IsWhole)
  (arg5 : Memref sig .tc .vmem S1x256x256 .f32) (harg5 : arg5.IsWhole) (arg6 : Memref sig .tc .vmem S1x4x512x512 .f32) (harg6 : arg6.IsWhole)
  (arg7 : Memref sig .tc .vmem S1x4x512x512 .f32) (harg7 : arg7.IsWhole) (arg8 : Memref sig .tc .vmem S4x512x256 .f32) (harg8 : arg8.IsWhole)
  (arg9 : Memref sig .tc .vmem S4x512x512 .f32) (harg9 : arg9.IsWhole)
  (x0 : Vec F S4x512x512 .f32) (x1 : Vec F S256x512 .f32) (x2 : Vec F S1x256 .f32) (x3 : Vec F S1x256x256 .f32)
  (xs0 : Vec F S4x512x256 .f32) (xs1 : Vec F S4x512x512 .f32)

/-- The adjacency block a later lag leaves. -/
theorem outB_adj (hc0 : ¬ cond0_0 i) : out0_B_4 c i arg2 harg2 arg3 harg3 arg4 harg4 arg5 harg5 arg6 harg6 arg7 harg7 arg8 harg8 arg9 harg9 hc0 x0 x1 x2 x3 xs0 xs1
    = blockOut fun k => chained (slab256 xs0 k) x3 (slab512 xs1 k) := by
  unfold out0_B_4
  rw [later_adj, View.read_writes_junk_eq_canon, canon_out]
  simp only [load256, load512, loadBil]

/-- The logits block a later lag leaves. -/
theorem outB_logits (hc0 : ¬ cond0_0 i) : out0_B_5 c i arg2 harg2 arg3 harg3 arg4 harg4 arg5 harg5 arg6 harg6 arg7 harg7 arg8 harg8 arg9 harg9 hc0 x0 x1 x2 x3 xs0 xs1 = blockOut fun k => k0_pay10 (slab256 xs0 k) x3 := by
  unfold out0_B_5
  rw [later_logits, View.read_writes_junk_eq_canon, canon_out]
  simp only [load256, loadBil]

/-- The kept entries a later lag leaves. -/
theorem outB_kept (hc0 : ¬ cond0_0 i) : sout0_B_1 c i arg2 harg2 arg3 harg3 arg4 harg4 arg5 harg5 arg6 harg6 arg7 harg7 arg8 harg8 arg9 harg9 hc0 x0 x1 x2 x3 xs0 xs1
    = stack512 fun k => chained (slab256 xs0 k) x3 (slab512 xs1 k) := by
  unfold sout0_B_1
  rw [later_kept, View.read_writes_junk_eq_canon, canon_512]
  simp only [load256, load512, loadBil]

/-- The projections of a block of four batch elements. -/
def projections : Vec F S4x512x256 .f32 := stack256 fun k => projected (slab512 x0 k) x1 x2

/-- The stores of the projections, read back. -/
theorem canon_proj : View.canon (projStores arg2 harg2 arg3 harg3 arg4 harg4 x0 x1 x2) = projections x0 x1 x2 := by
  unfold projStores projections
  rw [canon_256]
  congr 1
  funext k
  rw [load512, loadWhole arg3 harg3 x1 _ (by funext x; match x with | ⟨0, _⟩ => rfl | ⟨1, _⟩ => rfl),
    loadWhole arg4 harg4 x2 _ (by funext x; match x with | ⟨0, _⟩ => rfl | ⟨1, _⟩ => rfl)]

/-- A slab of the projections, read back. -/
theorem readCov_proj (v : View sig .tc .vmem S4x512x256 .f32) (k : Fin 4) :
    v.readCov (projStores arg2 harg2 arg3 harg3 arg4 harg4 x0 x1 x2) (rect256 k).toLoadRect = slab256 (projections x0 x1 x2) k := by
  rw [View.readCov_eq_canon', canon_proj]
  funext j
  exact congrArg _ (idx256 k j)

/-- The projections the first lag leaves. -/
theorem outA_proj (hc0 : cond0_0 i) : sout0_A_0 c i arg2 harg2 arg3 harg3 arg4 harg4 arg5 harg5 arg6 harg6 arg7 harg7 arg8 harg8 arg9 harg9 hc0 x0 x1 x2 x3 = projections x0 x1 x2 := by
  unfold sout0_A_0
  rw [first_proj, View.read_writes_junk_eq_canon, canon_proj]

/-- The logits block the first lag leaves. -/
theorem outA_logits (hc0 : cond0_0 i) : out0_A_5 c i arg2 harg2 arg3 harg3 arg4 harg4 arg5 harg5 arg6 harg6 arg7 harg7 arg8 harg8 arg9 harg9 hc0 x0 x1 x2 x3 = blockOut fun k => k0_pay10 (slab256 (projections x0 x1 x2) k) x3 := by
  unfold out0_A_5
  rw [first_logits, View.read_writes_junk_eq_canon, canon_out]
  simp only [readCov_proj, loadBil]

/-- The kept entries the first lag leaves. -/
theorem outA_kept (hc0 : cond0_0 i) : sout0_A_1 c i arg2 harg2 arg3 harg3 arg4 harg4 arg5 harg5 arg6 harg6 arg7 harg7 arg8 harg8 arg9 harg9 hc0 x0 x1 x2 x3
    = stack512 fun k => chained (slab256 (projections x0 x1 x2) k) x3 (slab512 filled k) := by
  unfold sout0_A_1
  rw [first_kept, View.read_writes_junk_eq_canon, canon_keptAll]
  simp only [readCov_proj, loadBil]

/-- The adjacency block the first lag leaves. -/
theorem outA_adj (hc0 : cond0_0 i) : out0_A_4 c i arg2 harg2 arg3 harg3 arg4 harg4 arg5 harg5 arg6 harg6 arg7 harg7 arg8 harg8 arg9 harg9 hc0 x0 x1 x2 x3
    = blockOut fun k => chained (slab256 (projections x0 x1 x2) k) x3 (slab512 filled k) := by
  unfold out0_A_4
  rw [first_adj, View.read_writes_junk_eq_canon, canon_out]
  simp only [readCov_proj, readCov_kept, loadBil]

end Own
-- ==== Proof.Ranking.lean ====
/-
  A column of 512 extended reals in descending order: its sixteen greatest entries, against the threshold "greatest value
  that sixteen entries reach". Nothing here names a program.
-/
module

public import Idealize.ShloMosaic.Lib.SortFacts
public import proofs.«01_k».proof.Proof.Selection

@[expose] public section

noncomputable section

namespace Own

open Idealize.ShloMosaic

/-- The positions of a column in descending order of their entries, equal entries in order of position. -/
def order (x : Fin 512 → EReal) : Fin 512 → Fin 512 :=
  sortedFrom fun k k' => Ideal.cmp .ogt (x k) (x k') == 1#1

/-- A bit made from a truth value is one exactly when the value is true. -/
theorem ofBool_one_iff (b : Bool) : BitVec.ofBool b = 1#1 ↔ b = true := by cases b <;> decide

/-- The comparison the ordering uses says exactly "greater". -/
theorem greater_iff (a b : EReal) : (Ideal.cmp .ogt a b == 1#1) = true ↔ b < a := by
  simp [Ideal.cmp, ofBool_one_iff]

/-- An entry of a later rank is at most an entry of an earlier rank. -/
theorem order_descends (x : Fin 512 → EReal) {i j : Fin 512} (h : i ≤ j) : x (order x j) ≤ x (order x i) := by
  rcases eq_or_lt_of_le h with rfl | h
  · exact le_refl _
  · have key := sortedFrom_noInversion (fun k k' : Fin 512 => Ideal.cmp .ogt (x k) (x k') == 1#1)
      (fun k k' => Ideal.cmp .ogt (x k) (x k') == 1#1)
      (fun a b hab => by
        rw [greater_iff] at hab
        exact Bool.eq_false_iff.2 fun hba => lt_asymm hab ((greater_iff _ _).1 hba))
      (fun a b hab => hab)
      (fun a b c hab hbc => by
        have h1 : ¬ x b < x a := fun q => by rw [(greater_iff _ _).2 q] at hab; cases hab
        have h2 : ¬ x c < x b := fun q => by rw [(greater_iff _ _).2 q] at hbc; cases hbc
        exact Bool.eq_false_iff.2 fun hac => h1 (lt_of_le_of_lt (not_lt.1 h2) ((greater_iff _ _).1 hac)))
      i j h
    by_contra hlt
    exact Bool.eq_false_iff.1 key ((greater_iff _ _).2 (not_le.1 hlt))

/-- Every position has a rank. -/
theorem order_surjective (x : Fin 512 → EReal) : Function.Surjective (order x) := sortedFrom_surjective _

/-- No two ranks share a position. -/
theorem order_injective (x : Fin 512 → EReal) : Function.Injective (order x) := sortedFrom_injective _

/-- Position `r` is among the sixteen of least rank. -/
def ranked (x : Fin 512 → EReal) (r : Fin 512) : Prop := ∃ k : Fin 16, order x (k.castLE (by decide)) = r

/-- Sixteen entries reach `y` exactly when the entry of rank 15 does. -/
theorem reach_iff_rank (x : Fin 512 → EReal) (y : EReal) : 16 ≤ reach x y ↔ y ≤ x (order x 15) := by
  constructor
  · intro h
    by_contra hlt
    have hsub : (Finset.univ.filter fun i => y ≤ x i) ⊆ (Finset.Iio (15 : Fin 512)).image (order x) := by
      intro r hr
      obtain ⟨k, hk⟩ := order_surjective x r
      refine Finset.mem_image.2 ⟨k, Finset.mem_Iio.2 ?_, hk⟩
      by_contra hge
      exact hlt ((Finset.mem_filter.1 hr).2.trans (hk ▸ order_descends x (not_lt.1 hge)))
    have hcard := (Finset.card_le_card hsub).trans Finset.card_image_le
    have h15 : (Finset.Iio (15 : Fin 512)).card = 15 := Fin.card_Iio 15
    rw [h15] at hcard
    exact absurd (h.trans hcard) (by decide)
  · intro h
    have hsub : (Finset.Iic (15 : Fin 512)).image (order x) ⊆ Finset.univ.filter fun i => y ≤ x i := by
      intro r hr
      obtain ⟨k, hk, rfl⟩ := Finset.mem_image.1 hr
      exact Finset.mem_filter.2 ⟨Finset.mem_univ _, h.trans (order_descends x (Finset.mem_Iic.1 hk))⟩
    have h16 : (Finset.Iic (15 : Fin 512)).card = 16 := Fin.card_Iic 15
    have hcard := Finset.card_le_card hsub
    rw [Finset.card_image_of_injective _ (order_injective x), h16] at hcard
    exact hcard

/-- A threshold that sixteen entries reach keeps, of a column without negative entries whose sixteenth and seventeenth greatest
    differ or whose sixteenth is zero, exactly the sixteen of least rank, up to entries that are zero. -/
theorem keep_eq (x : Fin 512 → EReal) (t : EReal) (ht : ∀ y, y ≤ t ↔ 16 ≤ reach x y) (hx : ∀ r, 0 ≤ x r)
    (htie : x (order x 16) < x (order x 15) ∨ x (order x 15) ≤ 0) (r : Fin 512) [Decidable (ranked x r)] :
    (if t ≤ x r then x r else 0) = if ranked x r then x r else 0 := by
  have ht' : t = x (order x 15) :=
    le_antisymm ((reach_iff_rank x t).1 ((ht t).1 (le_refl _))) ((ht _).2 ((reach_iff_rank x _).2 (le_refl _)))
  obtain ⟨k, hk⟩ := order_surjective x r
  by_cases h : ranked x r
  · obtain ⟨j, hj⟩ := h
    have hle : t ≤ x r := by
      rw [ht', ← hj]
      exact order_descends x (Fin.le_def.2 (by have := j.isLt; show j.val ≤ 15; omega))
    rw [if_pos hle, if_pos ⟨j, hj⟩]
  · rw [if_neg h]
    by_cases hle : t ≤ x r
    · rw [if_pos hle]
      have hk16 : (16 : Fin 512) ≤ k := by
        rw [Fin.le_def]
        show 16 ≤ k.val
        by_contra hlt
        exact h ⟨⟨k.val, not_le.1 hlt⟩, hk⟩
      have h1 : x r ≤ x (order x 16) := by rw [← hk]; exact order_descends x hk16
      rcases htie with hlt | h0
      · rw [ht'] at hle
        exact absurd (lt_of_lt_of_le hlt hle) (not_lt.2 h1)
      · have h2 : x (order x 16) ≤ x (order x 15) := order_descends x (by decide)
        exact le_antisymm (h1.trans (h2.trans h0)) (hx r)
    · rw [if_neg hle]

end Own

end

end
-- ==== Proof.Scores.lean ====
/-
  The mathematics of one batch entry: node vectors, their scaled bilinear products with the diagonal removed, and the
  column-wise selection of the sixteen greatest, over the extended reals. Nothing here names a program.
-/
module

public import proofs.«01_k».proof.Proof.Ranking
public import Idealize.ShloMosaic.Lib.Pointwise

@[expose] public section

noncomputable section

namespace Own

open Idealize.ShloMosaic

/-- The vector of node `d`: an affine map of its row, then the hyperbolic tangent. -/
def node (Z : Fin 512 → Fin 512 → EReal) (W : Fin 256 → Fin 512 → EReal) (b : Fin 256 → EReal) (d : Fin 512) (h : Fin 256) : EReal :=
  Ideal.tanh (∑ x, Z d x * W h x + b h)

/-- The bilinear product of the vectors of two nodes. -/
def score (P : Fin 512 → Fin 256 → EReal) (M : Fin 256 → Fin 256 → EReal) (i j : Fin 512) : EReal :=
  ∑ x, (∑ y, P i y * M y x) * P j x

/-- The product divided by eighty, zero on the diagonal. -/
def logit (P : Fin 512 → Fin 256 → EReal) (M : Fin 256 → Fin 256 → EReal) (i j : Fin 512) : EReal :=
  if i = j then 0 else score P M i j * ((1 / 80 : ℝ) : EReal)

/-- A column of weights: the positive parts of a column of logits. -/
def weights (L : Fin 512 → Fin 512 → EReal) (j i : Fin 512) : EReal := max (L i j) 0

open Classical in
/-- The weight of `(i, j)` when it is among the sixteen greatest of its column, zero when it is not. -/
def kept (L : Fin 512 → Fin 512 → EReal) (i j : Fin 512) : EReal :=
  if ranked (weights L j) i then weights L j i else 0

/-- The sixteenth greatest weight of the column is greater than the seventeenth, or it is zero. -/
def Untied (x : Fin 512 → EReal) : Prop := x (order x 16) < x (order x 15) ∨ x (order x 15) ≤ 0

/-- An extended real that is a real. -/
def Finite (x : EReal) : Prop := ∃ r : ℝ, x = (r : EReal)

theorem Finite.mul {x y : EReal} : Finite x → Finite y → Finite (x * y) := by
  rintro ⟨r, rfl⟩ ⟨s, rfl⟩
  exact ⟨r * s, (EReal.coe_mul r s).symm⟩

theorem Finite.sum {n : ℕ} {f : Fin n → EReal} (h : ∀ i, Finite (f i)) : Finite (∑ i, f i) := by
  choose g hg using h
  refine ⟨∑ i, g i, ?_⟩
  rw [Finset.sum_congr rfl fun i _ => hg i]
  exact (map_sum (⟨⟨fun r : ℝ => (r : EReal), rfl⟩, EReal.coe_add⟩ : ℝ →+ EReal) g Finset.univ).symm

/-- The hyperbolic tangent of any extended real is a real. -/
theorem finite_tanh (x : EReal) : Finite (Ideal.tanh x) := by
  induction x with
  | bot => exact ⟨-1, rfl⟩
  | top => exact ⟨1, rfl⟩
  | coe r => exact ⟨Real.tanh r, rfl⟩

/-- The bilinear product of node vectors with a real matrix is a real. -/
theorem finite_score {P : Fin 512 → Fin 256 → EReal} {M : Fin 256 → Fin 256 → EReal} (hP : ∀ d h, Finite (P d h))
    (hM : ∀ y x, Finite (M y x)) (i j : Fin 512) : Finite (score P M i j) :=
  Finite.sum fun x => (Finite.sum fun y => (hP i y).mul (hM y x)).mul (hP j x)

/-- Dividing by sixteen and then by five, and taking away the product with the identity matrix, gives the logit. -/
theorem logit_eq {P : Fin 512 → Fin 256 → EReal} {M : Fin 256 → Fin 256 → EReal} (i j : Fin 512) (h : Finite (score P M i j)) :
    Ideal.div (Ideal.div (score P M i j) ((16 : ℝ) : EReal)) ((5 : ℝ) : EReal)
      - (if i = j then 1 else 0) * Ideal.div (Ideal.div (score P M i j) ((16 : ℝ) : EReal)) ((5 : ℝ) : EReal) = logit P M i j := by
  obtain ⟨r, hr⟩ := h
  rw [logit, hr, Ideal.div_coe (by norm_num), Ideal.div_coe (by norm_num), ← EReal.coe_mul, ← EReal.coe_mul, ← EReal.coe_mul]
  split
  · rw [one_mul, ← EReal.coe_sub, sub_self, EReal.coe_zero]
  · rw [zero_mul, sub_zero]
    norm_num [mul_assoc]

end Own

end

end
-- ==== Proof.Scatter.lean ====
/-
  The reference's selection: the sixteen greatest of every column written back, at their own rows, into zeros.
-/
module

public import proofs.«01_k».proof.Proof.Ranking
public import proofs.«01_k».proof.Proof.Gen.ReferenceIdeal.Read
public import Idealize.ShloMosaic.Lib.Pointwise
public import Idealize.ShloMosaic.Lib.Routing.OpsSet

@[expose] public section

noncomputable section

namespace Own

open Idealize.ShloMosaic Idealize.ShloMosaic.TcCoe Idealize.ShloMosaic.Tactic
open Cert.ReferenceIdeal Cert.ReferenceIdeal.Gen Cert.ReferenceIdeal.Read

variable {F : FTy → Type} [FloatOps F]

/-- The sixteen greatest entries of every column of the transposed weights. -/
def topValues (z : FVec F S16x512x512 .f32) : FVec F S16x512x16 .f32 :=
  (Host.topK S16x512x16 2 (FloatOps.cmpfTotal .gt) z sliceFits_S16x512x512_S16x512x16).1

/-- The rows of the sixteen greatest entries, as words. -/
def topRows (z : FVec F S16x512x512 .f32) : IVec S16x512x16 32 :=
  (Host.topK S16x512x16 2 (FloatOps.cmpfTotal .gt) z sliceFits_S16x512x512_S16x512x16).2

/-- Where each of the sixteen is written: batch, column and row. -/
def targets (z : FVec F S16x512x512 .f32) : IVec S16x512x16x3 32 :=
  concatenate S16x512x16x3 3 [⟨S16x512x16x1, (val_main_v49 (F := F))⟩, ⟨S16x512x16x1, (val_main_v50 (F := F))⟩,
    ⟨S16x512x16x1, broadcastInDim S16x512x16x1 ![0, 1, 2] bcast_S16x512x16_S16x512x16x1_0_1_2
      (select (cmpi .slt (topRows z) (val_main_v42 (F := F))) (addi (topRows z) (val_main_v44 (F := F))) (topRows z))⟩]
    concatenates_S16x512x16x1_S16x512x16x1_S16x512x16x1_S16x512x16x3_d3

/-- The sixteen greatest entries of every column, written into zeros. -/
def scattered (z : FVec F S16x512x512 .f32) : FVec F S16x512x512 .f32 :=
  Host.scatter scatter_S16x512x512_S16x512x16x3_S16x512x16_n_012_012_3 (fun _ b => b) (val_main_v31 (F := F)) (targets z) (topValues z)

/-- The selected arrays have a third axis. -/
theorem rowInside : 2 < S16x512x512.rank := by decide

/-- The axis the selection runs along. -/
abbrev rowAxis : Fin S16x512x512.rank := ⟨2, rowInside⟩

/-- Moving along the last axis of a three-axis index replaces its last coordinate. -/
theorem along_last (j : S16x512x512.Idx) (k : Fin 512) : Shape.Idx.along j rowAxis k = ix3 (j 0) (j 1) k := by
  funext a
  match a with
  | ⟨0, _⟩ => rfl
  | ⟨1, _⟩ => rfl
  | ⟨2, _⟩ => rfl

/-- The place the ordering of the last axis reads the entry `j` from. -/
def source (z : FVec Ideal S16x512x512 .f32) (j : S16x512x512.Idx) : Fin 512 :=
  sortedFrom (fun k k' : Fin 512 => FloatOps.cmpfTotal (F := Ideal) (φ := .f32) .gt (z (Shape.Idx.along j rowAxis k))
    (z (Shape.Idx.along j rowAxis k')) == 1#1) (j 2)

/-- That place is the column's own order. -/
theorem source_eq (z : FVec Ideal S16x512x512 .f32) (j : S16x512x512.Idx) :
    source z j = order (fun r => z (ix3 (j 0) (j 1) r)) (j 2) := by
  unfold source order
  simp only [along_last]
  rfl

/-- The position, among all entries, of an entry of the first `m`. -/
def rankPlace {m : ℕ} (hm : m ≤ 512) (j : (⟨3, ![16, 512, m]⟩ : Shape).Idx) : S16x512x512.Idx := ix3 (j 0) (j 1) ((j 2).castLE hm)

/-- The slice of the first `m` starts at the origin. -/
theorem slice_place {m : ℕ} (hm : m ≤ 512) (j : (⟨3, ![16, 512, m]⟩ : Shape).Idx) {α : Type} (x : S16x512x512.Idx → α) (h) :
    extractStridedSlice (⟨3, ![16, 512, m]⟩ : Shape) (fun _ => 0) x h j = x (rankPlace hm j) := by
  unfold extractStridedSlice
  refine congrArg x ?_
  funext a
  match a with
  | ⟨0, _⟩ => exact Fin.ext (Nat.zero_add _)
  | ⟨1, _⟩ => exact Fin.ext (Nat.zero_add _)
  | ⟨2, _⟩ => exact Fin.ext (Nat.zero_add _)

/-- A sort of values with companions, at an entry: both are read from the place the ordering names. -/
theorem sort2_at {s : Shape} {d : Nat} {α β : Type} (cmp : α × β → α × β → BitVec 1) (x : s.Idx → α) (y : s.Idx → β)
    (hd : d < s.rank) (j : s.Idx) (q : Fin (s.size ⟨d, hd⟩))
    (hq : q = sortedFrom (fun k k' => cmp (x (j.along ⟨d, hd⟩ k), y (j.along ⟨d, hd⟩ k))
      (x (j.along ⟨d, hd⟩ k'), y (j.along ⟨d, hd⟩ k')) == 1#1) (j ⟨d, hd⟩)) :
    (Host.sort2 s d cmp x y).1 j = x (j.along ⟨d, hd⟩ q) ∧ (Host.sort2 s d cmp x y).2 j = y (j.along ⟨d, hd⟩ q) := by
  subst hq
  unfold Host.sort2
  rw [dif_pos hd]
  exact ⟨rfl, rfl⟩

/-- The values sorted along the last axis, at an entry. -/
theorem sorted_values (z : FVec Ideal S16x512x512 .f32) (y : IVec S16x512x512 32) (j : S16x512x512.Idx) :
    (Host.sort2 S16x512x512 2 (fun l r => FloatOps.cmpfTotal (F := Ideal) (φ := .f32) .gt l.1 r.1) z y).1 j
      = z (Shape.Idx.along j rowAxis (source z j)) := by
  exact (sort2_at (fun l r => FloatOps.cmpfTotal (F := Ideal) (φ := .f32) .gt l.1 r.1) z y rowInside j (source z j) rfl).1

/-- The companions carried by the sort along the last axis, at an entry. -/
theorem sorted_carried (z : FVec Ideal S16x512x512 .f32) (y : IVec S16x512x512 32) (j : S16x512x512.Idx) :
    (Host.sort2 S16x512x512 2 (fun l r => FloatOps.cmpfTotal (F := Ideal) (φ := .f32) .gt l.1 r.1) z y).2 j
      = y (Shape.Idx.along j rowAxis (source z j)) := by
  exact (sort2_at (fun l r => FloatOps.cmpfTotal (F := Ideal) (φ := .f32) .gt l.1 r.1) z y rowInside j (source z j) rfl).2

/-- The value of rank `k` of a column, among the first `m` kept. -/
theorem topK_at {m : ℕ} (hm : m ≤ 512) (z : FVec Ideal S16x512x512 .f32) (h) (b : Fin 16) (c : Fin 512) (k : Fin m) :
    (Host.topK (⟨3, ![16, 512, m]⟩ : Shape) 2 (FloatOps.cmpfTotal (F := Ideal) (φ := .f32) .gt) z h).1 (ix3 b c k)
      = z (ix3 b c (order (fun r => z (ix3 b c r)) (k.castLE hm))) := by
  dsimp only [Host.topK]
  refine (slice_place hm _ _ _).trans ((sorted_values z _ _).trans ?_)
  rw [along_last, source_eq]
  rfl

/-- The value of rank `k` of a column. -/
theorem topValues_at (z : FVec Ideal S16x512x512 .f32) (b : Fin 16) (c : Fin 512) (k : Fin 16) :
    topValues z (ix3 b c k) = z (ix3 b c (order (fun r => z (ix3 b c r)) (k.castLE (by decide)))) :=
  topK_at _ z _ b c k

/-- The row of rank `k` of a column, as a word. -/
theorem topRows_at (z : FVec Ideal S16x512x512 .f32) (b : Fin 16) (c : Fin 512) (k : Fin 16) :
    topRows z (ix3 b c k) = BitVec.ofNat 32 (order (fun r => z (ix3 b c r)) (k.castLE (by decide))).val := by
  dsimp only [topRows, Host.topK]
  refine (slice_place (by decide : 16 ≤ 512) _ _ _).trans ((sorted_carried z _ _).trans ?_)
  rw [along_last, source_eq, dif_pos rowInside]
  rfl

/-- A small number survives as a signed word. -/
theorem word_toInt (n : ℕ) (hn : n < 512) : (BitVec.ofNat 32 n).toInt = (n : Int) := by
  rw [BitVec.toInt_eq_toNat_of_lt (by rw [BitVec.toNat_ofNat]; omega), BitVec.toNat_ofNat]
  omega

/-- A small word is not negative, so the choice that wraps negative rows keeps it. -/
theorem wrap_keeps (n : ℕ) (hn : n < 512) (m : BitVec 32) :
    Scalar.select (IntOp.cmpi .slt (BitVec.ofNat 32 n) 0#32) m (BitVec.ofNat 32 n) = BitVec.ofNat 32 n := by
  have h : IntOp.cmpi .slt (BitVec.ofNat 32 n) 0#32 = 0#1 := by
    have hs : (BitVec.ofNat 32 n).slt 0#32 = false := by
      rw [BitVec.slt_eq_decide, word_toInt n hn]
      simp
    simp [IntOp.cmpi, hs]
  rw [h]
  rfl

theorem targets_batch (z : FVec Ideal S16x512x512 .f32) (b : Fin 16) (c : Fin 512) (k : Fin 16) :
    targets z (ix4 b c k 0) = BitVec.ofNat 32 b.val := by
  have h : targets z (ix4 b c k 0) = Scalar.select (IntOp.cmpi .slt (BitVec.ofNat 32 b.val) 0#32) (val_main_v35 (F := Ideal) (ix3 b 0 0)) (BitVec.ofNat 32 b.val) := by
    pointwise [targets, val_main_v49, val_main_v47, val_main_v36, val_main_v33, val_main_v32, val_main_c_2, val_main_v28, val_main_v27]
  rw [h, wrap_keeps _ (by have := b.isLt; omega)]

theorem targets_column (z : FVec Ideal S16x512x512 .f32) (b : Fin 16) (c : Fin 512) (k : Fin 16) :
    targets z (ix4 b c k 1) = BitVec.ofNat 32 c.val := by
  have h : targets z (ix4 b c k 1) = Scalar.select (IntOp.cmpi .slt (BitVec.ofNat 32 c.val) 0#32) (val_main_v40 (F := Ideal) (ix3 0 c 0)) (BitVec.ofNat 32 c.val) := by
    pointwise [targets, val_main_v50, val_main_v48, val_main_v41, val_main_v38, val_main_v37, val_main_c_4, val_main_v30, val_main_v29]
  rw [h, wrap_keeps _ c.isLt]

theorem targets_row (z : FVec Ideal S16x512x512 .f32) (b : Fin 16) (c : Fin 512) (k : Fin 16) :
    targets z (ix4 b c k 2) = BitVec.ofNat 32 (order (fun r => z (ix3 b c r)) (k.castLE (by decide))).val := by
  have h : targets z (ix4 b c k 2) = Scalar.select (IntOp.cmpi .slt (topRows z (ix3 b c k)) 0#32) (addi (topRows z) (val_main_v44 (F := Ideal)) (ix3 b c k)) (topRows z (ix3 b c k)) := by
    pointwise [targets, val_main_v42, val_main_c_6]
  rw [h, topRows_at, wrap_keeps _ (Fin.isLt _)]

/-- Update `(b, c, k)` reads component `a` of its target off the index vector at `(b, c, k)`. -/
theorem start_eq (w : IVec S16x512x16x3 32) (b : Fin 16) (c : Fin 512) (k : Fin 16) (a : Fin 3) :
    ScatterDims.start scatter_S16x512x512_S16x512x16x3_S16x512x16_n_012_012_3 (ix3 b c k) w a = (w (ix4 b c k a)).toInt := by
  unfold ScatterDims.start
  have ha : a ∈ scatter_S16x512x512_S16x512x16x3_S16x512x16_n_012_012_3.scatterDimsToOperandDims := by
    match a with
    | 0 => decide
    | 1 => decide
    | 2 => decide
  rw [dif_pos ha]
  refine congrArg (fun q => (w q).toInt) ?_
  funext e
  match e, a with
  | ⟨0, _⟩, _ => rfl
  | ⟨1, _⟩, _ => rfl
  | ⟨2, _⟩, _ => rfl
  | ⟨3, _⟩, 0 => rfl
  | ⟨3, _⟩, 1 => rfl
  | ⟨3, _⟩, 2 => rfl

/-- The updates are single entries: no window coordinate. -/
theorem window_eq (j : S16x512x16.Idx) (a : Fin 3) :
    ScatterDims.window scatter_S16x512x512_S16x512x16x3_S16x512x16_n_012_012_3 j a = 0 := by
  match a with
  | 0 => rfl
  | 1 => rfl
  | 2 => rfl

/-- An update lands where its three words say, when they are a place of the array. -/
theorem lands_iff (w : IVec S16x512x16x3 32) (b : Fin 16) (c : Fin 512) (k : Fin 16) (b' : Fin 16) (c' : Fin 512) (r : Fin 512)
    (h0 : (w (ix4 b c k 0)).toInt = (b'.val : Int)) (h1 : (w (ix4 b c k 1)).toInt = (c'.val : Int))
    (h2 : (w (ix4 b c k 2)).toInt = (r.val : Int)) :
    ScatterDims.resultIdx? scatter_S16x512x512_S16x512x16x3_S16x512x16_n_012_012_3 (ix3 b c k) w = some (ix3 b' c' r) := by
  unfold ScatterDims.resultIdx?
  have h : ∀ a : Fin 3, ScatterDims.start scatter_S16x512x512_S16x512x16x3_S16x512x16_n_012_012_3 (ix3 b c k) w a
      + ScatterDims.window scatter_S16x512x512_S16x512x16x3_S16x512x16_n_012_012_3 (ix3 b c k) a
      = (((ix3 b' c' r : S16x512x512.Idx) a).val : Int) := by
    intro a
    rw [start_eq, window_eq, Nat.cast_zero, add_zero]
    match a with
    | 0 => exact h0
    | 1 => exact h1
    | 2 => exact h2
  rw [dif_pos (fun a => by
    rw [h a]
    exact ⟨Int.natCast_nonneg _, Int.ofNat_lt.2 (Fin.isLt _)⟩)]
  refine congrArg some (funext fun a => Fin.ext ?_)
  show Int.toNat _ = _
  rw [h a, Int.toNat_natCast]

/-- Update `(b, c, k)` lands in column `c` of batch `b`, at the row of rank `k`. -/
theorem lands (z : FVec Ideal S16x512x512 .f32) (b : Fin 16) (c : Fin 512) (k : Fin 16) :
    ScatterDims.resultIdx? scatter_S16x512x512_S16x512x16x3_S16x512x16_n_012_012_3 (ix3 b c k) (targets z)
      = some (ix3 b c (order (fun r => z (ix3 b c r)) (k.castLE (by decide)))) :=
  lands_iff _ _ _ _ _ _ _
    (by rw [targets_batch, word_toInt _ (by have := b.isLt; omega)])
    (by rw [targets_column, word_toInt _ c.isLt])
    (by rw [targets_row, word_toInt _ (Fin.isLt _)])

open Classical in
/-- The scattered weights: an entry among the sixteen of least rank in its column is kept, any other is zero. -/
theorem scattered_at (z : FVec Ideal S16x512x512 .f32) (b : Fin 16) (c r : Fin 512) :
    scattered z (ix3 b c r) = if ranked (fun r => (z (ix3 b c r) : EReal)) r then (z (ix3 b c r) : EReal) else 0 := by
  unfold scattered
  by_cases h : ranked (fun r => (z (ix3 b c r) : EReal)) r
  · rw [if_pos h]
    obtain ⟨k, hk⟩ := h
    refine Routing.scatter_set_hit _ _ _ _ _ _ ?_ (ix3 b c k) ((lands z b c k).trans (congrArg (fun q => some (ix3 b c q)) hk))
    intro j hj
    obtain ⟨b', c', k', rfl⟩ : ∃ b' c' k', j = ix3 b' c' k' := ⟨j 0, j 1, j 2, eq_ix3 j⟩
    rw [lands] at hj
    rw [topValues_at]
    exact congrArg z (Option.some.inj hj)
  · rw [if_neg h]
    rw [Routing.scatter_set_miss]
    · pointwise [val_main_v31, val_main_cst_1]
    · intro j hj
      obtain ⟨b', c', k', rfl⟩ : ∃ b' c' k', j = ix3 b' c' k' := ⟨j 0, j 1, j 2, eq_ix3 j⟩
      rw [lands] at hj
      have e := Option.some.inj hj
      have e0 : b' = b := congrFun e 0
      have e1 : c' = c := congrFun e 1
      have e2 : order (fun r => z (ix3 b' c' r)) (k'.castLE (by decide)) = r := congrFun e 2
      subst e0 e1
      exact h ⟨k', e2⟩

end Own

end

end
-- ==== Proof.KernelReads.lean ====
/-
  The kernel's per-point terms read at an index over the extended reals: the node vectors, the logits, and the kept
  weights chained with the lag before.
-/
module

public import proofs.«01_k».proof.Proof.Threshold
public import proofs.«01_k».proof.Proof.States
public import proofs.«01_k».proof.Proof.Scores
public import proofs.«01_k».proof.Proof.Scatter

@[expose] public section

noncomputable section

namespace Own

open Idealize.ShloMosaic Idealize.ShloMosaic.TcCoe Idealize.ShloMosaic.Tactic
open Cert.KernelIdeal Cert.KernelIdeal.Gen

/-- The named scale is one eightieth. -/
theorem scale_eq : Named.named (F := Ideal) (φ := .f32) κ "scale" 0x3C4CCCCD#32 = ((1 / 80 : ℝ) : EReal) :=
  IdealRules.named_const.ideal_named_scalar _ _ _ _ rfl

/-- Two positions below 512 are equal exactly when their words are. -/
theorem word_eq_iff (i j : Fin 512) : IntOp.cmpi .eq (BitVec.ofNat 32 i.val) (BitVec.ofNat 32 j.val) = 1#1 ↔ i = j := by
  have h : IntOp.cmpi .eq (BitVec.ofNat 32 i.val) (BitVec.ofNat 32 j.val)
      = BitVec.ofBool (BitVec.ofNat 32 i.val == BitVec.ofNat 32 j.val) := rfl
  rw [h, ofBool_one_iff, beq_iff_eq]
  constructor
  · intro e
    have := congrArg BitVec.toInt e
    rw [word_toInt _ i.isLt, word_toInt _ j.isLt] at this
    exact Fin.ext (by omega)
  · rintro rfl; rfl

/-- The node vectors of one batch entry. -/
theorem projected_at (z : Vec Ideal S1x512x512 .f32) (w : Vec Ideal S256x512 .f32) (b : Vec Ideal S1x256 .f32) (d : Fin 512) (h : Fin 256) :
    projected (F := Ideal) z w b (ix2 d h)
      = node (fun d x => z (ix3 0 d x)) (fun h x => w (ix2 h x)) (fun h => b (ix2 0 h)) d h := by
  pointwise [projected, k0_pay6]
  rfl

/-- The logits of one batch entry at one lag. -/
theorem pay10_at (p : Vec Ideal S1x512x256 .f32) (bil : Vec Ideal S1x256x256 .f32) (i j : Fin 512) :
    k0_pay10 (F := Ideal) p bil (ix2 i j)
      = logit (fun d h => p (ix3 0 d h)) (fun y x => bil (ix3 0 y x)) i j := by
  pointwise [k0_pay10]
  unfold logit score
  rw [show Named.named (F := Ideal) (φ := .f32) κ "scale" 1011666125#32 = ((1 / 80 : ℝ) : EReal) from scale_eq]
  by_cases e : i = j
  · rw [if_pos e, show IntOp.cmpi .eq (BitVec.ofNat 32 i.val) (BitVec.ofNat 32 j.val) = 1#1 from (word_eq_iff i j).mpr e]
    rfl
  · rw [if_neg e]
    exact if_neg fun h => e ((word_eq_iff i j).mp h)

/-- The weights of one batch entry at one lag. -/
theorem pay12_at (p : Vec Ideal S1x512x256 .f32) (bil : Vec Ideal S1x256x256 .f32) (i j : Fin 512) :
    k0_pay12 (F := Ideal) p bil (ix2 i j)
      = weights (logit (fun d h => p (ix3 0 d h)) (fun y x => bil (ix3 0 y x))) j i := by
  have h : k0_pay12 (F := Ideal) p bil (ix2 i j) = max (k0_pay10 (F := Ideal) p bil (ix2 i j)) 0 := by
    pointwise [k0_pay12]
  rw [h, pay10_at]
  rfl

/-- The kept weights of one batch entry, chained with the lag before, when the column has no tie at rank sixteen. -/
theorem chained_at (p : Vec Ideal S1x512x256 .f32) (bil : Vec Ideal S1x256x256 .f32) (q : Vec Ideal S1x512x512 .f32) (i j : Fin 512)
    (h : Untied (weights (logit (fun d h => p (ix3 0 d h)) (fun y x => bil (ix3 0 y x))) j)) :
    chained (F := Ideal) p bil q (ix2 i j)
      = min (kept (logit (fun d h => p (ix3 0 d h)) (fun y x => bil (ix3 0 y x))) i j) (q (ix3 0 i j)) := by
  have e : chained (F := Ideal) p bil q (ix2 i j)
      = min (if kthRow (k0_pay12 (F := Ideal) p bil) (ix2 0 j) ≤ k0_pay12 (F := Ideal) p bil (ix2 i j) then k0_pay12 (F := Ideal) p bil (ix2 i j) else 0)
          (q (ix3 0 i j)) := by
    pointwise [chained]
  rw [e, pay12_at]
  clear e
  have ht : ∀ y, y ≤ kthRow (k0_pay12 (F := Ideal) p bil) (ix2 0 j)
      ↔ 16 ≤ reach (weights (logit (fun d h => p (ix3 0 d h)) (fun y x => bil (ix3 0 y x))) j) y := by
    intro y
    rw [le_kthRow_iff]
    rw [show (fun i : Fin 512 => (k0_pay12 (F := Ideal) p bil (ix2 i j) : EReal))
      = weights (logit (fun d h => p (ix3 0 d h)) (fun y x => bil (ix3 0 y x))) j from funext fun i => pay12_at p bil i j]
  have hx : ∀ r, 0 ≤ weights (logit (fun d h => p (ix3 0 d h)) (fun y x => bil (ix3 0 y x))) j r := fun r => le_max_right _ _
  unfold kept
  generalize kthRow (k0_pay12 (F := Ideal) p bil) (ix2 0 j) = T at ht ⊢
  generalize weights (logit (fun d h => p (ix3 0 d h)) (fun y x => bil (ix3 0 y x))) j = X at ht hx h ⊢
  classical
  refine congrArg (fun a => min a (q (ix3 0 i j))) ?_
  exact (keep_eq X T ht hx h i)

/-- The fill is infinity. -/
theorem filled_at (k : Fin 4) (i j : Fin 512) : (filled : Vec Ideal S4x512x512 .f32) (ix3 k i j) = (⊤ : EReal) := by
  pointwise [filled, k0_pay9]
  simp [Ideal.ofBits, Ideal.ieee, -EReal.coe_mul]

end Own

end
-- ==== Proof.InputBlocks.lean ====
/-
  What each point of the grid reads of the arguments: four batch entries of the first, the whole of the second and third,
  one lag's matrix of the fourth.
-/
module

public import proofs.«01_k».proof.Proof.Gen.KernelIdeal.Value
public import Idealize.ShloMosaic.Lib.Pointwise
public import Idealize.ShloMosaic.Lib.Claim

@[expose] public section

noncomputable section

namespace Own

open Idealize.ShloMosaic Idealize.ShloMosaic.TcCoe Idealize.ShloMosaic.Tactic
open Cert.KernelIdeal Cert.KernelIdeal.Gen

variable {F : FTy → Type} [FloatOps F] [Named F]
variable (m : (ℓ : Loc nD τ sig) → Buf (Elt F) ℓ)

theorem index0 : ∀ t : Fin cfg0.N, win0_0.index t 0 = t.val / 3 ∧ win0_0.index t 1 = 0 ∧ win0_0.index t 2 = 0 :=
  (by decide +kernel : ∀ t : Fin grid0.N, win0_0.index t 0 = t.val / 3 ∧ win0_0.index t 1 = 0 ∧ win0_0.index t 2 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

theorem index3 : ∀ t : Fin cfg0.N, win0_3.index t 0 = t.val % 3 ∧ win0_3.index t 1 = 0 ∧ win0_3.index t 2 = 0 :=
  (by decide +kernel : ∀ t : Fin grid0.N, win0_3.index t 0 = t.val % 3 ∧ win0_3.index t 1 = 0 ∧ win0_3.index t 2 = 0)

/-- Batch entry `k` of the block of the first argument at a point. -/
theorem iblk0_at (c : Dev nD) (t : Fin cfg0.N) (k : Fin 4) (d x : Fin 512) (b : Fin 16) (hb : b.val = 4 * (t.val / 3) + k.val) :
    (iblk m c 0 t : Vec F S4x512x512 .f32) (ix3 k d x) = m ((c : Thread nD τ).loc main_arg0) (ix3 b d x) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 4 + 1 * k.val = b.val; rw [h0]; omega
  | ⟨1, _⟩ => show win0_0.index t 1 * 512 + 1 * d.val = d.val; rw [h1]; omega
  | ⟨2, _⟩ => show win0_0.index t 2 * 512 + 1 * x.val = x.val; rw [h2]; omega

/-- The block of the second argument is the argument. -/
theorem iblk1_at (c : Dev nD) (t : Fin cfg0.N) (h : Fin 256) (x : Fin 512) :
    (iblk m c 1 t : Vec F S256x512 .f32) (ix2 h x) = m ((c : Thread nD τ).loc main_arg1) (ix2 h x) := by
  obtain ⟨h0, h1⟩ := index1 t
  unfold iblk
  rw [View.read_apply]
  show V m c main_arg1 _ = _
  rw [V_main_arg1]
  congr 1
  funext a
  apply Fin.ext
  match a with
  | ⟨0, _⟩ => show win0_1.index t 0 * 256 + 1 * h.val = h.val; rw [h0]; omega
  | ⟨1, _⟩ => show win0_1.index t 1 * 512 + 1 * x.val = x.val; rw [h1]; omega

/-- The row the third argument is reshaped to. -/
theorem biasRow (c : Dev nD) : (V m c main_call0_v0 : Vec F S1x256 .f32)
    = shapeCast S1x256 (m ((c : Thread nD τ).loc main_arg2) : Vec F S256 .f32) shapeCasts_S256_S1x256 := by
  entry_read
  rfl

/-- The block of the third argument is the argument, as a row. -/
theorem iblk2_at (c : Dev nD) (t : Fin cfg0.N) (h : Fin 256) :
    (iblk m c 2 t : Vec F S1x256 .f32) (ix2 0 h) = m ((c : Thread nD τ).loc main_arg2) (ix1 h) := by
  obtain ⟨h0, h1⟩ := index2 t
  unfold iblk
  rw [View.read_apply]
  show (V m c main_call0_v0 : Vec F S1x256 .f32) _ = _
  rw [biasRow]
  have e : ∀ i : S1x256.Idx, i = ix2 0 h →
      shapeCast S1x256 (m ((c : Thread nD τ).loc main_arg2) : Vec F S256 .f32) shapeCasts_S256_S1x256 i
        = m ((c : Thread nD τ).loc main_arg2) (ix1 h) := by
    rintro i rfl
    pointwise
  refine e _ ?_
  funext a
  apply Fin.ext
  match a with
  | ⟨0, _⟩ => show win0_2.index t 0 * 1 + 1 * 0 = 0; rw [h0]
  | ⟨1, _⟩ => show win0_2.index t 1 * 256 + 1 * h.val = h.val; rw [h1]; omega

/-- The block of the fourth argument at a point is its lag's matrix. -/
theorem iblk3_at (c : Dev nD) (t : Fin cfg0.N) (y x : Fin 256) (l : Fin 3) (hl : l.val = t.val % 3) :
    (iblk m c 3 t : Vec F S1x256x256 .f32) (ix3 0 y x) = m ((c : Thread nD τ).loc main_arg3) (ix3 l y x) := by
  obtain ⟨h0, h1, h2⟩ := index3 t
  unfold iblk
  rw [View.read_apply]
  show V m c main_arg3 _ = _
  rw [V_main_arg3]
  congr 1
  funext a
  apply Fin.ext
  match a with
  | ⟨0, _⟩ => show win0_3.index t 0 * 1 + 1 * 0 = l.val; rw [h0]; omega
  | ⟨1, _⟩ => show win0_3.index t 1 * 256 + 1 * y.val = y.val; rw [h1]; omega
  | ⟨2, _⟩ => show win0_3.index t 2 * 256 + 1 * x.val = x.val; rw [h2]; omega

end Own

end
-- ==== Proof.PointStates.lean ====
/-
  What the outputs and the scratch hold after a point of the grid, as arrays of the point's input blocks and of what the
  point before left.
-/
module

public import proofs.«01_k».proof.Proof.States
public import proofs.«01_k».proof.Proof.Gen.KernelIdeal.Value

@[expose] public section

noncomputable section

namespace Own

open Idealize.ShloMosaic Idealize.ShloMosaic.TcCoe Idealize.ShloMosaic.Tactic
open Cert.KernelIdeal Cert.KernelIdeal.Gen

variable {F : FTy → Type} [FloatOps F] [Named F]
variable (m : (ℓ : Loc nD τ sig) → Buf (Elt F) ℓ) (c : Dev nD) (t : Fin cfg0.N)

/-- The projections the point computes. -/
def pointProj : Vec F S4x512x256 .f32 := projections (iblk m c 0 t) (iblk m c 1 t) (iblk m c 2 t)

/-- The projections the point before left. -/
def heldProj : Vec F S4x512x256 .f32 := (outsAt0 m c (t.val - 1) (Nat.lt_of_le_of_lt (Nat.sub_le _ _) t.isLt)).2.2.1

/-- The kept entries the point before left. -/
def heldKept : Vec F S4x512x512 .f32 := (outsAt0 m c (t.val - 1) (Nat.lt_of_le_of_lt (Nat.sub_le _ _) t.isLt)).2.2.2

/-- The projections' scratch after a first lag. -/
theorem first_state_proj (h0 : t.val % 3 = 0) : (outsAt0 m c t.val t.isLt).2.2.1 = pointProj m c t := by
  rw [outsAt0_A m c t h0]
  dsimp only
  rw [outA_proj]
  rfl

/-- The kept entries' scratch after a first lag. -/
theorem first_state_kept (h0 : t.val % 3 = 0) : (outsAt0 m c t.val t.isLt).2.2.2
    = stack512 fun k => chained (slab256 (pointProj m c t) k) (iblk m c 3 t) (slab512 filled k) := by
  rw [outsAt0_A m c t h0]
  dsimp only
  rw [outA_kept]
  rfl

/-- The adjacency block after a first lag. -/
theorem first_state_adj (h0 : t.val % 3 = 0) : (outsAt0 m c t.val t.isLt).1
    = blockOut fun k => chained (slab256 (pointProj m c t) k) (iblk m c 3 t) (slab512 filled k) := by
  rw [outsAt0_A m c t h0]
  dsimp only
  rw [outA_adj]
  rfl

/-- The logits block after a first lag. -/
theorem first_state_logits (h0 : t.val % 3 = 0) : (outsAt0 m c t.val t.isLt).2.1
    = blockOut fun k => k0_pay10 (slab256 (pointProj m c t) k) (iblk m c 3 t) := by
  rw [outsAt0_A m c t h0]
  dsimp only
  rw [outA_logits]
  rfl

/-- The projections' scratch after a later lag. -/
theorem later_state_proj (h0 : ¬ t.val % 3 = 0) : (outsAt0 m c t.val t.isLt).2.2.1 = heldProj m c t := by
  rw [outsAt0_B m c t h0]
  rfl

/-- The kept entries' scratch after a later lag. -/
theorem later_state_kept (h0 : ¬ t.val % 3 = 0) : (outsAt0 m c t.val t.isLt).2.2.2
    = stack512 fun k => chained (slab256 (heldProj m c t) k) (iblk m c 3 t) (slab512 (heldKept m c t) k) := by
  rw [outsAt0_B m c t h0]
  dsimp only
  rw [outB_kept]
  rfl

/-- The adjacency block after a later lag. -/
theorem later_state_adj (h0 : ¬ t.val % 3 = 0) : (outsAt0 m c t.val t.isLt).1
    = blockOut fun k => chained (slab256 (heldProj m c t) k) (iblk m c 3 t) (slab512 (heldKept m c t) k) := by
  rw [outsAt0_B m c t h0]
  dsimp only
  rw [outB_adj]
  rfl

/-- The logits block after a later lag. -/
theorem later_state_logits (h0 : ¬ t.val % 3 = 0) : (outsAt0 m c t.val t.isLt).2.1
    = blockOut fun k => k0_pay10 (slab256 (heldProj m c t) k) (iblk m c 3 t) := by
  rw [outsAt0_B m c t h0]
  dsimp only
  rw [outB_logits]
  rfl

end Own

end
-- ==== Proof.ReferenceReads.lean ====
/-
  What the reference computes, read at an index: node vectors, logits of each lag, and the selected weights of each lag.
-/
module

public import proofs.«01_k».proof.Proof.Scatter
public import proofs.«01_k».proof.Proof.Scores

@[expose] public section

noncomputable section

namespace Own

open Idealize.ShloMosaic Idealize.ShloMosaic.TcCoe Idealize.ShloMosaic.Tactic
open Cert.ReferenceIdeal Cert.ReferenceIdeal.Gen Cert.ReferenceIdeal.Read

/-- The node vectors of batch entry `b`, from the arguments. -/
def nodes (x0 : FVec Ideal S16x512x512 .f32) (x1 : FVec Ideal S256x512 .f32) (x2 : FVec Ideal S256 .f32) (b : Fin 16) :
    Fin 512 → Fin 256 → EReal :=
  node (fun d x => x0 (ix3 b d x)) (fun h x => x1 (ix2 h x)) (fun h => x2 (ix1 h))

/-- The bilinear matrix of lag `l`, from the arguments. -/
def bilinear (x3 : FVec Ideal S3x256x256 .f32) (l : Fin 3) : Fin 256 → Fin 256 → EReal := fun y x => x3 (ix3 l y x)

/-- The logits of lag `l` and batch entry `b`. -/
def lagLogit (x0 : FVec Ideal S16x512x512 .f32) (x1 : FVec Ideal S256x512 .f32) (x2 : FVec Ideal S256 .f32)
    (x3 : FVec Ideal S3x256x256 .f32) (l : Fin 3) (b : Fin 16) : Fin 512 → Fin 512 → EReal :=
  logit (nodes x0 x1 x2 b) (bilinear x3 l)

/-- Every entry of the bilinear argument is a real. -/
def RealBilinear (x3 : FVec Ideal S3x256x256 .f32) : Prop := ∀ l y x, Finite (bilinear x3 l y x)

/-- The reference's node vectors. -/
theorem v5_at (x0 x1 x2) (b : Fin 16) (d : Fin 512) (h : Fin 256) :
    val_main_v5 (F := Ideal) x0 x1 x2 (ix3 b d h) = nodes x0 x1 x2 b d h := by
  pointwise [val_main_v5, val_main_v4, val_main_v3, val_main_v2, val_main_v1, val_main_v0, dot_S16x512x512_S512x256_S16x512x256_2_0_01_1_n_n]
  rfl

/-- The identity matrix the reference multiplies by. -/
theorem eye_at (i j : Fin 512) :
    (FloatOps.uitofp (F := Ideal) FTy.f32 (IntOp.cmpi CmpIPredicate.eq (IntOp.addi (BitVec.ofNat 32 i.val) 0#32) (BitVec.ofNat 32 j.val)) : EReal)
      = if i = j then 1 else 0 := by
  have hw : IntOp.addi (BitVec.ofNat 32 i.val) 0#32 = BitVec.ofNat 32 i.val := BitVec.add_zero _
  rw [hw]
  by_cases h : i = j
  · subst h
    rw [if_pos rfl]
    simp [IntOp.cmpi, FloatOps.uitofp]
  · rw [if_neg h]
    have hne : BitVec.ofNat 32 i.val ≠ BitVec.ofNat 32 j.val := fun e =>
      h (Fin.ext (by have := word_toInt _ i.isLt; rw [e, word_toInt _ j.isLt] at this; omega))
    simp [IntOp.cmpi, FloatOps.uitofp, hne]

/-- The divisor sixteen. -/
theorem sixteen : Ideal.ofBits FTy.f32 1098907648#32 = ((16 : ℝ) : EReal) := by
  simp [Ideal.ofBits, Ideal.ieee, -EReal.coe_mul]; norm_num

/-- The divisor five. -/
theorem five : Ideal.ofBits FTy.f32 1084227584#32 = ((5 : ℝ) : EReal) := by
  simp [Ideal.ofBits, Ideal.ieee, -EReal.coe_mul]; norm_num

section Logits

variable (x0 : FVec Ideal S16x512x512 .f32) (x1 : FVec Ideal S256x512 .f32) (x2 : FVec Ideal S256 .f32)
  (x3 : FVec Ideal S3x256x256 .f32)

/-- Node vectors are real. -/
theorem finite_nodes (b : Fin 16) (d : Fin 512) (h : Fin 256) : Finite (nodes x0 x1 x2 b d h) := finite_tanh _

/-- The logits of a bilinear matrix `y`, as the reference computes them. -/
def refLogits {F : FTy → Type} [FloatOps F] (x0 : FVec F S16x512x512 .f32) (x1 : FVec F S256x512 .f32) (x2 : FVec F S256 .f32)
    (y : FVec F S256x256 .f32) : FVec F S16x512x512 .f32 :=
  let q := Host.divf (Host.divf (Host.dotGeneral dot_S16x512x256_S16x256x512_S16x512x512_2_1_1_2_0_0 none
    (Host.dotGeneral dot_S16x512x256_S256x256_S16x512x256_2_0_01_1_n_n none (val_main_v5 x0 x1 x2) y) (val_main_v15 x0 x1 x2))
    val_main_v17) val_main_v19
  subf q (mulf val_main_v22 q)

/-- The selected weights from the logits `z`, as the reference computes them. -/
def refKept {F : FTy → Type} [FloatOps F] (z : FVec F S16x512x512 .f32) : FVec F S16x512x512 .f32 :=
  transpose S16x512x512 [0, 2, 1] (scattered (transpose S16x512x512 [0, 2, 1] (maximumf z val_main_call0_v0)
    transposes_S16x512x512_S16x512x512_0_2_1)) transposes_S16x512x512_S16x512x512_0_2_1

/-- The reference's logits at an index. -/
theorem refLogits_at {l : Fin 3} (y : FVec Ideal S256x256 .f32) (hy : ∀ p q, y (ix2 p q) = bilinear x3 l p q)
    (hreal : RealBilinear x3) (b : Fin 16) (i j : Fin 512) :
    refLogits x0 x1 x2 y (ix3 b i j) = lagLogit x0 x1 x2 x3 l b i j := by
  pointwise [refLogits, val_main_v22, val_main_v21, val_main_v19, val_main_v17, val_main_v15, val_main_v11, val_main_v10,
    val_main_v9, val_main_v8, val_main_v7, val_main_v6, val_main_c, val_main_cst, val_main_cst_0,
    dot_S16x512x256_S16x256x512_S16x512x512_2_1_1_2_0_0, dot_S16x512x256_S256x256_S16x512x256_2_0_01_1_n_n]
  simp only [v5_at, hy]
  rw [sixteen, five, eye_at]
  exact logit_eq i j (finite_score (fun d h => finite_nodes x0 x1 x2 b d h) (hreal l) i j)

/-- The transposed positive parts of logits, at an index. -/
theorem weights_at (z : FVec Ideal S16x512x512 .f32) (L : Fin 512 → Fin 512 → EReal) (b : Fin 16) (hz : ∀ i j, z (ix3 b i j) = L i j)
    (c r : Fin 512) : transpose S16x512x512 [0, 2, 1] (maximumf z (val_main_call0_v0 (F := Ideal)))
      transposes_S16x512x512_S16x512x512_0_2_1 (ix3 b c r) = weights L c r := by
  pointwise [val_main_call0_v0, val_main_call0_cst]
  rw [hz]
  rfl

/-- The reference's selected weights at an index. -/
theorem refKept_at (z : FVec Ideal S16x512x512 .f32) (L : Fin 512 → Fin 512 → EReal) (b : Fin 16) (hz : ∀ i j, z (ix3 b i j) = L i j)
    (i j : Fin 512) : refKept z (ix3 b i j) = kept L i j := by
  have hw := weights_at z L b hz
  have h : refKept z (ix3 b i j) = scattered (transpose S16x512x512 [0, 2, 1] (maximumf z (val_main_call0_v0 (F := Ideal)))
      transposes_S16x512x512_S16x512x512_0_2_1) (ix3 b j i) := by
    pointwise [refKept]
  rw [h, scattered_at]
  unfold kept
  rw [← show _ = weights L j from funext (hw j)]

end Logits

section Lags

variable {F : FTy → Type} [FloatOps F] [Named F] (x0 : FVec F S16x512x512 .f32) (x1 : FVec F S256x512 .f32) (x2 : FVec F S256 .f32)
  (x3 : FVec F S3x256x256 .f32)

/-- The logits of lag 0. -/
theorem v24_eq : val_main_v24 (F := F) x0 x1 x2 x3 = refLogits x0 x1 x2 (val_main_v13 x3) := by sl_kernel_rfl
/-- The logits of lag 1. -/
theorem v79_eq : val_main_v79 (F := F) x0 x1 x2 x3 = refLogits x0 x1 x2 (val_main_v68 x3) := by sl_kernel_rfl
/-- The logits of lag 2. -/
theorem v134_eq : val_main_v134 (F := F) x0 x1 x2 x3 = refLogits x0 x1 x2 (val_main_v123 x3) := by sl_kernel_rfl
/-- The selected weights of lag 0. -/
theorem v54_eq : val_main_v54 (F := F) x0 x1 x2 x3 = refKept (val_main_v24 x0 x1 x2 x3) := by sl_kernel_rfl
/-- The selected weights of lag 1. -/
theorem v109_eq : val_main_v109 (F := F) x0 x1 x2 x3 = refKept (val_main_v79 x0 x1 x2 x3) := by sl_kernel_rfl
/-- The selected weights of lag 2. -/
theorem v164_eq : val_main_v164 (F := F) x0 x1 x2 x3 = refKept (val_main_v134 x0 x1 x2 x3) := by sl_kernel_rfl

end Lags

end Own

end

end
-- ==== Proof.ReferenceValue.lean ====
/-
  The two results of the reference, read at an index.
-/
module

public import proofs.«01_k».proof.Proof.ReferenceReads

@[expose] public section

noncomputable section

namespace Own

open Idealize.ShloMosaic Idealize.ShloMosaic.TcCoe Idealize.ShloMosaic.Tactic
open Cert.ReferenceIdeal Cert.ReferenceIdeal.Gen Cert.ReferenceIdeal.Read

/-- The running minimum over lags: each lag's value against the result of the lag before. -/
def chain (K : Fin 3 → EReal) : Fin 3 → EReal := ![K 0, min (K 1) (K 0), min (K 2) (min (K 1) (K 0))]

variable (x0 : FVec Ideal S16x512x512 .f32) (x1 : FVec Ideal S256x512 .f32) (x2 : FVec Ideal S256 .f32)
  (x3 : FVec Ideal S3x256x256 .f32)

/-- The logits of lag 0 at an index. -/
theorem v24_at (hreal : RealBilinear x3) (b : Fin 16) (i j : Fin 512) :
    val_main_v24 (F := Ideal) x0 x1 x2 x3 (ix3 b i j) = lagLogit x0 x1 x2 x3 0 b i j := by
  rw [v24_eq]
  exact refLogits_at x0 x1 x2 x3 _ (fun p q => by pointwise [val_main_v13, val_main_v12]; rfl) hreal b i j

/-- The logits of lag 1 at an index. -/
theorem v79_at (hreal : RealBilinear x3) (b : Fin 16) (i j : Fin 512) :
    val_main_v79 (F := Ideal) x0 x1 x2 x3 (ix3 b i j) = lagLogit x0 x1 x2 x3 1 b i j := by
  rw [v79_eq]
  exact refLogits_at x0 x1 x2 x3 _ (fun p q => by pointwise [val_main_v68, val_main_v67]; rfl) hreal b i j

/-- The logits of lag 2 at an index. -/
theorem v134_at (hreal : RealBilinear x3) (b : Fin 16) (i j : Fin 512) :
    val_main_v134 (F := Ideal) x0 x1 x2 x3 (ix3 b i j) = lagLogit x0 x1 x2 x3 2 b i j := by
  rw [v134_eq]
  exact refLogits_at x0 x1 x2 x3 _ (fun p q => by pointwise [val_main_v123, val_main_v122]; rfl) hreal b i j

/-- The logits the reference returns. -/
theorem v174_at (hreal : RealBilinear x3) (l : Fin 3) (b : Fin 16) (i j : Fin 512) :
    val_main_v174 (F := Ideal) x0 x1 x2 x3 (ix4 l b i j) = lagLogit x0 x1 x2 x3 l b i j := by
  match l with
  | 0 =>
    pointwise [val_main_v174, val_main_v171, val_main_v172, val_main_v173]
    exact v24_at x0 x1 x2 x3 hreal b i j
  | 1 =>
    pointwise [val_main_v174, val_main_v171, val_main_v172, val_main_v173]
    exact v79_at x0 x1 x2 x3 hreal b i j
  | 2 =>
    pointwise [val_main_v174, val_main_v171, val_main_v172, val_main_v173]
    exact v134_at x0 x1 x2 x3 hreal b i j

/-- The selected weights of lag 0 at an index. -/
theorem v54_at (hreal : RealBilinear x3) (b : Fin 16) (i j : Fin 512) :
    val_main_v54 (F := Ideal) x0 x1 x2 x3 (ix3 b i j) = kept (lagLogit x0 x1 x2 x3 0 b) i j := by
  rw [v54_eq]
  exact refKept_at _ _ b (v24_at x0 x1 x2 x3 hreal b) i j

/-- The selected weights of lag 1 at an index. -/
theorem v109_at (hreal : RealBilinear x3) (b : Fin 16) (i j : Fin 512) :
    val_main_v109 (F := Ideal) x0 x1 x2 x3 (ix3 b i j) = kept (lagLogit x0 x1 x2 x3 1 b) i j := by
  rw [v109_eq]
  exact refKept_at _ _ b (v79_at x0 x1 x2 x3 hreal b) i j

/-- The selected weights of lag 2 at an index. -/
theorem v164_at (hreal : RealBilinear x3) (b : Fin 16) (i j : Fin 512) :
    val_main_v164 (F := Ideal) x0 x1 x2 x3 (ix3 b i j) = kept (lagLogit x0 x1 x2 x3 2 b) i j := by
  rw [v164_eq]
  exact refKept_at _ _ b (v134_at x0 x1 x2 x3 hreal b) i j

/-- The weights the reference returns. -/
theorem v170_at (hreal : RealBilinear x3) (l : Fin 3) (b : Fin 16) (i j : Fin 512) :
    val_main_v170 (F := Ideal) x0 x1 x2 x3 (ix4 l b i j) = chain (fun l => kept (lagLogit x0 x1 x2 x3 l b) i j) l := by
  match l with
  | 0 =>
    pointwise [val_main_v170, val_main_v167, val_main_v168, val_main_v169]
    exact v54_at x0 x1 x2 x3 hreal b i j
  | 1 =>
    pointwise [val_main_v170, val_main_v167, val_main_v168, val_main_v169, val_main_v165]
    rw [v109_at x0 x1 x2 x3 hreal, v54_at x0 x1 x2 x3 hreal]
    rfl
  | 2 =>
    pointwise [val_main_v170, val_main_v167, val_main_v168, val_main_v169, val_main_v166, val_main_v165]
    rw [v164_at x0 x1 x2 x3 hreal, v109_at x0 x1 x2 x3 hreal, v54_at x0 x1 x2 x3 hreal]
    rfl

end Own

end

end
-- ==== Proof.KernelValue.lean ====
/-
  What the kernel's two results hold at every index: the logits of their lag and batch entry, and the chain of the kept
  weights over the lags.
-/
module

public import proofs.«01_k».proof.Proof.KernelReads
public import proofs.«01_k».proof.Proof.InputBlocks
public import proofs.«01_k».proof.Proof.PointStates
public import proofs.«01_k».proof.Proof.ReferenceValue

@[expose] public section

noncomputable section

namespace Own

open Idealize.ShloMosaic Idealize.ShloMosaic.TcCoe Idealize.ShloMosaic.Tactic
open Cert.KernelIdeal Cert.KernelIdeal.Gen

/-- The chain at the first lag. -/
theorem chain_first (K : Fin 3 → EReal) (l : Fin 3) (h : l.val = 0) : min (K l) ⊤ = chain K l := by
  obtain rfl : l = 0 := Fin.ext h
  exact min_eq_left le_top

/-- The chain at a later lag. -/
theorem chain_later (K : Fin 3 → EReal) (l l' : Fin 3) (h : l.val = l'.val + 1) : min (K l) (chain K l') = chain K l := by
  have hl := l.isLt
  have : l'.val = 0 ∨ l'.val = 1 := by omega
  rcases this with e | e
  · obtain rfl : l' = 0 := Fin.ext e
    obtain rfl : l = 1 := Fin.ext (by rw [h]; rfl)
    rfl
  · obtain rfl : l' = 1 := Fin.ext e
    obtain rfl : l = 2 := Fin.ext (by rw [h]; rfl)
    rfl

variable (m : (ℓ : Loc nD τ sig) → Buf (Elt Ideal) ℓ) (c : Dev nD)

/-- The node vectors of the arguments. -/
def argNodes (b : Fin 16) : Fin 512 → Fin 256 → EReal :=
  nodes (m ((c : Thread nD τ).loc main_arg0)) (m ((c : Thread nD τ).loc main_arg1)) (m ((c : Thread nD τ).loc main_arg2)) b

/-- The logits of the arguments. -/
def argLogit (l : Fin 3) (b : Fin 16) : Fin 512 → Fin 512 → EReal :=
  lagLogit (m ((c : Thread nD τ).loc main_arg0)) (m ((c : Thread nD τ).loc main_arg1)) (m ((c : Thread nD τ).loc main_arg2))
    (m ((c : Thread nD τ).loc main_arg3)) l b

/-- The projections a point computes. -/
theorem projections_at (t : Fin cfg0.N) (k : Fin 4) (d : Fin 512) (h : Fin 256) (b : Fin 16) (hb : b.val = 4 * (t.val / 3) + k.val) :
    projections (F := Ideal) (iblk m c 0 t) (iblk m c 1 t) (iblk m c 2 t) (ix3 k d h) = argNodes m c b d h := by
  refine (projected_at (slab512 (iblk m c 0 t) k) (iblk m c 1 t) (iblk m c 2 t) d h).trans ?_
  unfold argNodes nodes
  congr 1
  · funext d x; exact iblk0_at m c t k d x b hb
  · funext h x; exact iblk1_at m c t h x
  · funext h; exact iblk2_at m c t h

/-- The logits a point computes from node vectors it holds. -/
theorem logits_at (t : Fin cfg0.N) (P : Vec Ideal S4x512x256 .f32) (k : Fin 4) (b : Fin 16) (l : Fin 3) (hl : l.val = t.val % 3)
    (hP : ∀ d h, P (ix3 k d h) = argNodes m c b d h) :
    logit (fun d h => slab256 P k (ix3 0 d h)) (fun y x => (iblk m c 3 t : Vec Ideal S1x256x256 .f32) (ix3 0 y x)) = argLogit m c l b := by
  unfold argLogit lagLogit
  congr 1
  · funext d h; exact hP d h
  · funext y x; exact iblk3_at m c t y x l hl

/-- The chained block a point computes from node vectors it holds. -/
theorem chained_block (t : Fin cfg0.N) (P : Vec Ideal S4x512x256 .f32) (Q : Vec Ideal S4x512x512 .f32) (k : Fin 4) (b : Fin 16) (l : Fin 3)
    (hl : l.val = t.val % 3) (hP : ∀ d h, P (ix3 k d h) = argNodes m c b d h) (i j : Fin 512)
    (hU : Untied (weights (argLogit m c l b) j)) :
    chained (F := Ideal) (slab256 P k) (iblk m c 3 t) (slab512 Q k) (ix2 i j) = min (kept (argLogit m c l b) i j) (Q (ix3 k i j)) := by
  have e := logits_at m c t P k b l hl hP
  rw [← e] at hU ⊢
  exact chained_at _ _ _ i j hU

/-- What the outputs and the scratch hold after point `n`. -/
structure Holds (n : ℕ) (hn : n < cfg0.N) : Prop where
  nodes : ∀ (k : Fin 4) (b : Fin 16), b.val = 4 * (n / 3) + k.val → ∀ d h,
    ((outsAt0 m c n hn).2.2.1 : Vec Ideal S4x512x256 .f32) (ix3 k d h) = argNodes m c b d h
  carried : ∀ (k : Fin 4) (b : Fin 16), b.val = 4 * (n / 3) + k.val → ∀ l : Fin 3, l.val = n % 3 → ∀ i j,
    ((outsAt0 m c n hn).2.2.2 : Vec Ideal S4x512x512 .f32) (ix3 k i j) = chain (fun l => kept (argLogit m c l b) i j) l
  adj : ∀ (k : Fin 4) (b : Fin 16), b.val = 4 * (n / 3) + k.val → ∀ l : Fin 3, l.val = n % 3 → ∀ i j,
    ((outsAt0 m c n hn).1 : Vec Ideal S1x4x512x512 .f32) (ix4 0 k i j) = chain (fun l => kept (argLogit m c l b) i j) l
  logits : ∀ (k : Fin 4) (b : Fin 16), b.val = 4 * (n / 3) + k.val → ∀ l : Fin 3, l.val = n % 3 → ∀ i j,
    ((outsAt0 m c n hn).2.1 : Vec Ideal S1x4x512x512 .f32) (ix4 0 k i j) = argLogit m c l b i j

/-- A point's projections, entry by entry. -/
theorem pointProj_at (t : Fin cfg0.N) (k : Fin 4) (d : Fin 512) (h : Fin 256) (b : Fin 16) (hb : b.val = 4 * (t.val / 3) + k.val) :
    pointProj m c t (ix3 k d h) = argNodes m c b d h :=
  projections_at m c t k d h b hb

/-- The first lag of four batch entries. -/
theorem holds_first (hU : ∀ l b j, Untied (weights (argLogit m c l b) j)) (t : Fin cfg0.N) (h0 : t.val % 3 = 0) :
    Holds m c t.val t.isLt := by
  have key : ∀ (k : Fin 4) (b : Fin 16), b.val = 4 * (t.val / 3) + k.val → ∀ l : Fin 3, l.val = t.val % 3 → ∀ i j,
      chained (F := Ideal) (slab256 (pointProj m c t) k) (iblk m c 3 t) (slab512 filled k) (ix2 i j)
        = chain (fun l => kept (argLogit m c l b) i j) l := by
    intro k b hb l hl i j
    refine (chained_block m c t _ filled k b l hl (fun d h => pointProj_at m c t k d h b hb) i j (hU l b j)).trans ?_
    rw [filled_at]
    exact chain_first (fun l => kept (argLogit m c l b) i j) l (hl.trans h0)
  constructor
  · intro k b hb d h
    rw [first_state_proj m c t h0]
    exact pointProj_at m c t k d h b hb
  · intro k b hb l hl i j
    rw [first_state_kept m c t h0]
    exact key k b hb l hl i j
  · intro k b hb l hl i j
    rw [first_state_adj m c t h0]
    exact key k b hb l hl i j
  · intro k b hb l hl i j
    rw [first_state_logits m c t h0]
    refine (pay10_at (slab256 (pointProj m c t) k) (iblk m c 3 t) i j).trans ?_
    rw [logits_at m c t _ k b l hl (fun d h => pointProj_at m c t k d h b hb)]

/-- A later lag, over what the lag before left. -/
theorem holds_later (hU : ∀ l b j, Untied (weights (argLogit m c l b) j)) (t : Fin cfg0.N) (h0 : ¬ t.val % 3 = 0)
    (ih : Holds m c (t.val - 1) (Nat.lt_of_le_of_lt (Nat.sub_le _ _) t.isLt)) : Holds m c t.val t.isLt := by
  have hd : (t.val - 1) / 3 = t.val / 3 := by omega
  have hN : ∀ (k : Fin 4) (b : Fin 16), b.val = 4 * (t.val / 3) + k.val → ∀ d h, heldProj m c t (ix3 k d h) = argNodes m c b d h :=
    fun k b hb => ih.nodes k b (by rw [hd]; exact hb)
  have key : ∀ (k : Fin 4) (b : Fin 16), b.val = 4 * (t.val / 3) + k.val → ∀ l : Fin 3, l.val = t.val % 3 → ∀ i j,
      chained (F := Ideal) (slab256 (heldProj m c t) k) (iblk m c 3 t) (slab512 (heldKept m c t) k) (ix2 i j)
        = chain (fun l => kept (argLogit m c l b) i j) l := by
    intro k b hb l hl i j
    refine (chained_block m c t _ _ k b l hl (hN k b hb) i j (hU l b j)).trans ?_
    have hl' : t.val % 3 - 1 < 3 := by omega
    have hk : heldKept m c t (ix3 k i j) = chain (fun l => kept (argLogit m c l b) i j) ⟨t.val % 3 - 1, hl'⟩ :=
      ih.carried k b (by rw [hd]; exact hb) ⟨t.val % 3 - 1, hl'⟩ (by show t.val % 3 - 1 = (t.val - 1) % 3; omega) i j
    rw [hk]
    exact chain_later (fun l => kept (argLogit m c l b) i j) l _ (by show l.val = t.val % 3 - 1 + 1; omega)
  constructor
  · intro k b hb d h
    rw [later_state_proj m c t h0]
    exact hN k b hb d h
  · intro k b hb l hl i j
    rw [later_state_kept m c t h0]
    exact key k b hb l hl i j
  · intro k b hb l hl i j
    rw [later_state_adj m c t h0]
    exact key k b hb l hl i j
  · intro k b hb l hl i j
    rw [later_state_logits m c t h0]
    refine (pay10_at (slab256 (heldProj m c t) k) (iblk m c 3 t) i j).trans ?_
    rw [logits_at m c t _ k b l hl (hN k b hb)]

/-- Every point of the grid. -/
theorem holds (hU : ∀ l b j, Untied (weights (argLogit m c l b) j)) : ∀ (n : ℕ) (hn : n < cfg0.N), Holds m c n hn := by
  intro n
  induction n with
  | zero => intro hn; exact holds_first m c hU ⟨0, hn⟩ rfl
  | succ n ih =>
    intro hn
    by_cases h0 : (n + 1) % 3 = 0
    · exact holds_first m c hU ⟨n + 1, hn⟩ h0
    · exact holds_later m c hU ⟨n + 1, hn⟩ h0 (ih (Nat.lt_of_succ_lt hn))

/-- The second result is the logits. -/
theorem logitsArray_at (hU : ∀ l b j, Untied (weights (argLogit m c l b) j)) (l : Fin 3) (b : Fin 16) (i j : Fin 512) :
    Value.G5 m c (ix4 l b i j) = argLogit m c l b i j := by
  have hp : Value.pt5Of (ix4 l b i j) = l.val + 3 * (b.val / 4) := by
    show 1 * (l.val / 1 - 0) + 3 * (b.val / 4 - 0) + 12 * (i.val / 512 - 0) + 12 * (j.val / 512 - 0) = _
    omega
  have hN : cfg0.N = 12 := N_0
  have hlt : Value.pt5Of (ix4 l b i j) < cfg0.N := by rw [hp, hN]; omega
  have hloc : Value.loc5Of (ix4 l b i j) = ix4 0 ⟨b.val % 4, Nat.mod_lt _ (by decide)⟩ i j := by
    funext a; apply Fin.ext
    match a with
    | ⟨0, _⟩ => show l.val % 1 = 0; omega
    | ⟨1, _⟩ => rfl
    | ⟨2, _⟩ => show i.val % 512 = i.val; omega
    | ⟨3, _⟩ => show j.val % 512 = j.val; omega
  unfold Value.G5
  rw [dif_pos hlt, ← Value.outsAt0_sweep m c _ hlt, hloc]
  exact (holds m c hU _ hlt).logits _ b (by show b.val = 4 * (Value.pt5Of (ix4 l b i j) / 3) + b.val % 4; rw [hp]; omega) l (by rw [hp]; omega) i j

/-- The first result is the chain of the kept weights. -/
theorem adjArray_at (hU : ∀ l b j, Untied (weights (argLogit m c l b) j)) (l : Fin 3) (b : Fin 16) (i j : Fin 512) :
    Value.G4 m c (ix4 l b i j) = chain (fun l => kept (argLogit m c l b) i j) l := by
  have hp : Value.pt4Of (ix4 l b i j) = l.val + 3 * (b.val / 4) := by
    show 1 * (l.val / 1 - 0) + 3 * (b.val / 4 - 0) + 12 * (i.val / 512 - 0) + 12 * (j.val / 512 - 0) = _
    omega
  have hN : cfg0.N = 12 := N_0
  have hlt : Value.pt4Of (ix4 l b i j) < cfg0.N := by rw [hp, hN]; omega
  have hloc : Value.loc4Of (ix4 l b i j) = ix4 0 ⟨b.val % 4, Nat.mod_lt _ (by decide)⟩ i j := by
    funext a; apply Fin.ext
    match a with
    | ⟨0, _⟩ => show l.val % 1 = 0; omega
    | ⟨1, _⟩ => rfl
    | ⟨2, _⟩ => show i.val % 512 = i.val; omega
    | ⟨3, _⟩ => show j.val % 512 = j.val; omega
  unfold Value.G4
  rw [dif_pos hlt, ← Value.outsAt0_sweep m c _ hlt, hloc]
  exact (holds m c hU _ hlt).adj _ b (by show b.val = 4 * (Value.pt4Of (ix4 l b i j) / 3) + b.val % 4; rw [hp]; omega) l (by rw [hp]; omega) i j

end Own

end
-- ==== Proof.Precondition.lean ====
/-
  What the precondition says: the bilinear argument is real, and no column of weights ties at rank sixteen above zero.
-/
module

public import proofs.«01_k».proof.Proof.ReferenceValue
public import proofs.«01_k».proof.Pre_no_tie_at_rank_k

@[expose] public section

noncomputable section

namespace Own

open Idealize.ShloMosaic Idealize.ShloMosaic.TcCoe Idealize.ShloMosaic.Tactic
open Cert.ReferenceIdeal Cert.ReferenceIdeal.Gen Cert.ReferenceIdeal.Read

/-- The shape conditions the precondition states. -/
instance preFacts : Cert.Pre_no_tie_at_rank_k.Facts := by
  constructor <;> decide

section Shapes

variable {F : FTy → Type} [FloatOps F]

/-- Of one lag: per column, whether its sixteenth greatest weight is above the seventeenth or is not positive. -/
def columnsOk (z : FVec F S16x512x512 .f32) : IVec Cert.Pre_no_tie_at_rank_k.S16x512 1 :=
  let t := (Host.topK Cert.Pre_no_tie_at_rank_k.S16x512x17 2 (FloatOps.cmpfTotal .gt)
    (transpose S16x512x512 [0, 2, 1] (maximumf z (val_main_call0_v0 (F := F))) transposes_S16x512x512_S16x512x512_0_2_1)
    Cert.Pre_no_tie_at_rank_k.Facts.sliceFits_S16x512x512_S16x512x17).1
  let kth := shapeCast Cert.Pre_no_tie_at_rank_k.S16x512 (extractStridedSlice Cert.Pre_no_tie_at_rank_k.S16x512x1 ![0, 0, 15] t
    Cert.Pre_no_tie_at_rank_k.Facts.slices_S16x512x17_S16x512x1_0_0_15) Cert.Pre_no_tie_at_rank_k.Facts.shapeCasts_S16x512x1_S16x512
  let next := shapeCast Cert.Pre_no_tie_at_rank_k.S16x512 (extractStridedSlice Cert.Pre_no_tie_at_rank_k.S16x512x1 ![0, 0, 16] t
    Cert.Pre_no_tie_at_rank_k.Facts.slices_S16x512x17_S16x512x1_0_0_16) Cert.Pre_no_tie_at_rank_k.Facts.shapeCasts_S16x512x1_S16x512
  ori (cmpf .ogt kth next) (cmpf .ole kth (broadcastInDim Cert.Pre_no_tie_at_rank_k.S16x512 ![]
    Cert.Pre_no_tie_at_rank_k.Facts.bcast_S_S16x512 (constant Cert.Pre_no_tie_at_rank_k.S_ .f32 0x00000000#32)))

/-- The three lags' answers, stacked. -/
def stackedOk (a b c : IVec Cert.Pre_no_tie_at_rank_k.S16x512 1) : IVec Cert.Pre_no_tie_at_rank_k.S3x16x512 1 :=
  concatenate Cert.Pre_no_tie_at_rank_k.S3x16x512 0
    [⟨Cert.Pre_no_tie_at_rank_k.S1x16x512, broadcastInDim Cert.Pre_no_tie_at_rank_k.S1x16x512 ![1, 2] Cert.Pre_no_tie_at_rank_k.Facts.bcast_S16x512_S1x16x512_1_2 a⟩,
     ⟨Cert.Pre_no_tie_at_rank_k.S1x16x512, broadcastInDim Cert.Pre_no_tie_at_rank_k.S1x16x512 ![1, 2] Cert.Pre_no_tie_at_rank_k.Facts.bcast_S16x512_S1x16x512_1_2 b⟩,
     ⟨Cert.Pre_no_tie_at_rank_k.S1x16x512, broadcastInDim Cert.Pre_no_tie_at_rank_k.S1x16x512 ![1, 2] Cert.Pre_no_tie_at_rank_k.Facts.bcast_S16x512_S1x16x512_1_2 c⟩]
    Cert.Pre_no_tie_at_rank_k.Facts.concatenates_S1x16x512_S1x16x512_S1x16x512_S3x16x512_d0

variable [Named F] (x0 : FVec F S16x512x512 .f32) (x1 : FVec F S256x512 .f32) (x2 : FVec F S256 .f32)
  (x3 : FVec F S3x256x256 .f32)

/-- The second part of the precondition is about the reference's own logits. -/
theorem pre_columns : (Cert.Pre_no_tie_at_rank_k.fn (F := F) x0 x1 x2 x3).2
    = stackedOk (columnsOk (val_main_v24 (F := F) x0 x1 x2 x3)) (columnsOk (val_main_v79 (F := F) x0 x1 x2 x3))
        (columnsOk (val_main_v134 (F := F) x0 x1 x2 x3)) := by
  sl_kernel_rfl

/-- The first part of the precondition compares magnitudes with infinity. -/
theorem pre_bilinear : (Cert.Pre_no_tie_at_rank_k.fn (F := F) x0 x1 x2 x3).1
    = cmpf .olt (Host.absf x3) (broadcastInDim S3x256x256 ![] Cert.Pre_no_tie_at_rank_k.Facts.bcast_S_S3x256x256
        (constant Cert.Pre_no_tie_at_rank_k.S_ .f32 0x7F800000#32)) := by
  sl_kernel_rfl

end Shapes

/-- A column that passes has no tie at rank sixteen. -/
theorem untied_of_columnsOk (z : FVec Ideal S16x512x512 .f32) (L : Fin 512 → Fin 512 → EReal) (b : Fin 16)
    (hz : ∀ i j, z (ix3 b i j) = L i j) (c : Fin 512) (h : columnsOk z (ix2 b c) = 1#1) : Untied (weights L c) := by
  pointwise [columnsOk] at h
  rw [topK_at (by decide : 17 ≤ 512), topK_at (by decide : 17 ≤ 512)] at h
  have hcol := funext (weights_at z L b hz c)
  rw [hcol, weights_at z L b hz, weights_at z L b hz] at h
  by_cases h1 : weights L c (order (weights L c) 16) < weights L c (order (weights L c) 15)
  · exact Or.inl h1
  · by_cases h2 : weights L c (order (weights L c) 15) ≤ 0
    · exact Or.inr h2
    · change IntOp.ori (BitVec.ofBool (decide (weights L c (order (weights L c) 16) < weights L c (order (weights L c) 15))))
        (BitVec.ofBool (decide (weights L c (order (weights L c) 15) ≤ 0))) = 1#1 at h
      rw [decide_eq_false h1, decide_eq_false h2] at h
      exact absurd h (by decide)

variable (x0 : FVec Ideal S16x512x512 .f32) (x1 : FVec Ideal S256x512 .f32) (x2 : FVec Ideal S256 .f32)
  (x3 : FVec Ideal S3x256x256 .f32)

/-- The bound of the first part is positive infinity. -/
theorem infinite : Ideal.ofBits FTy.f32 2139095040#32 = (⊤ : EReal) := by
  simp [Ideal.ofBits, Ideal.ieee]

/-- An extended real whose magnitude is below positive infinity is real. -/
theorem finite_of_abs (x : EReal) (h : max x (-x) < ⊤) : Finite x := by
  induction x with
  | bot => simp at h
  | top => simp at h
  | coe r => exact ⟨r, rfl⟩

/-- Under the precondition the bilinear argument is real. -/
theorem real_of_pre (h : (Cert.Pre_no_tie_at_rank_k.fn (F := Ideal) x0 x1 x2 x3).1 = fun _ => 1#1) : RealBilinear x3 := by
  intro l y x
  rw [pre_bilinear] at h
  have e := congrFun h (ix3 l y x)
  pointwise at e
  have hlt := of_decide_eq_true ((ofBool_one_iff _).1 e)
  rw [infinite] at hlt
  exact finite_of_abs _ hlt

/-- Under the precondition no column of any lag ties at rank sixteen above zero. -/
theorem untied_of_pre (h1 : (Cert.Pre_no_tie_at_rank_k.fn (F := Ideal) x0 x1 x2 x3).1 = fun _ => 1#1)
    (h2 : (Cert.Pre_no_tie_at_rank_k.fn (F := Ideal) x0 x1 x2 x3).2 = fun _ => 1#1) (l : Fin 3) (b : Fin 16) (c : Fin 512) :
    Untied (weights (lagLogit x0 x1 x2 x3 l b) c) := by
  have hreal := real_of_pre x0 x1 x2 x3 h1
  rw [pre_columns] at h2
  have e := congrFun h2 (ix3 l b c)
  match l with
  | 0 =>
    refine untied_of_columnsOk _ _ b (v24_at x0 x1 x2 x3 hreal b) c (Eq.trans ?_ e)
    pointwise [stackedOk]
  | 1 =>
    refine untied_of_columnsOk _ _ b (v79_at x0 x1 x2 x3 hreal b) c (Eq.trans ?_ e)
    pointwise [stackedOk]
  | 2 =>
    refine untied_of_columnsOk _ _ b (v134_at x0 x1 x2 x3 hreal b) c (Eq.trans ?_ e)
    pointwise [stackedOk]

end Own

end

end
-- ==== Proof.Results.lean ====
/-
  The two programs' results are equal at every index, under the precondition.
-/
module

public import proofs.«01_k».proof.Proof.KernelValue
public import proofs.«01_k».proof.Proof.Precondition

@[expose] public section

noncomputable section

namespace Own

open Idealize.ShloMosaic Idealize.ShloMosaic.TcCoe Idealize.ShloMosaic.Tactic
open Cert.KernelIdeal Cert.KernelIdeal.Gen

/-- The index of an entry of a result, by lag, batch entry, row and column. -/
theorem entry (a : Cert.KernelIdeal.S3x16x512x512.Idx) : ∃ (l : Fin 3) (b : Fin 16) (i j : Fin 512), a = ix4 l b i j :=
  ⟨a 0, a 1, a 2, a 3, eq_ix4 a⟩

variable (m : (ℓ : Loc nD τ sig) → Buf (Elt Ideal) ℓ) (c : Dev nD)

/-- The kernel's second result is the reference's. -/
theorem logits_eq (hreal : RealBilinear (m ((c : Thread nD τ).loc main_arg3)))
    (hU : ∀ l b j, Untied (weights (argLogit m c l b) j)) :
    Cert.ReferenceIdeal.Read.val_main_v174 (F := Ideal) (m ((c : Thread nD τ).loc main_arg0)) (m ((c : Thread nD τ).loc main_arg1))
      (m ((c : Thread nD τ).loc main_arg2)) (m ((c : Thread nD τ).loc main_arg3)) = Value.G5 m c := by
  funext a
  obtain ⟨l, b, i, j, rfl⟩ := entry a
  exact (v174_at _ _ _ _ hreal l b i j).trans (logitsArray_at m c hU l b i j).symm

/-- The kernel's first result is the reference's. -/
theorem adj_eq (hreal : RealBilinear (m ((c : Thread nD τ).loc main_arg3)))
    (hU : ∀ l b j, Untied (weights (argLogit m c l b) j)) :
    Cert.ReferenceIdeal.Read.val_main_v170 (F := Ideal) (m ((c : Thread nD τ).loc main_arg0)) (m ((c : Thread nD τ).loc main_arg1))
      (m ((c : Thread nD τ).loc main_arg2)) (m ((c : Thread nD τ).loc main_arg3)) = Value.G4 m c := by
  funext a
  obtain ⟨l, b, i, j, rfl⟩ := entry a
  exact (v170_at _ _ _ _ hreal l b i j).trans (adjArray_at m c hU l b i j).symm

/-- The reference's second result, at arguments equal to the kernel's. -/
theorem logits_eq_of (hreal : RealBilinear (m ((c : Thread nD τ).loc main_arg3)))
    (hU : ∀ l b j, Untied (weights (argLogit m c l b) j)) (y0 : FVec Ideal S16x512x512 .f32) (y1 : FVec Ideal S256x512 .f32)
    (y2 : FVec Ideal S256 .f32) (y3 : FVec Ideal S3x256x256 .f32) (h0 : y0 = m ((c : Thread nD τ).loc main_arg0))
    (h1 : y1 = m ((c : Thread nD τ).loc main_arg1)) (h2 : y2 = m ((c : Thread nD τ).loc main_arg2))
    (h3 : y3 = m ((c : Thread nD τ).loc main_arg3)) :
    Cert.ReferenceIdeal.Read.val_main_v174 (F := Ideal) y0 y1 y2 y3 = Value.G5 m c := by
  subst h0 h1 h2 h3
  exact logits_eq m c hreal hU

/-- The reference's first result, at arguments equal to the kernel's. -/
theorem adj_eq_of (hreal : RealBilinear (m ((c : Thread nD τ).loc main_arg3)))
    (hU : ∀ l b j, Untied (weights (argLogit m c l b) j)) (y0 : FVec Ideal S16x512x512 .f32) (y1 : FVec Ideal S256x512 .f32)
    (y2 : FVec Ideal S256 .f32) (y3 : FVec Ideal S3x256x256 .f32) (h0 : y0 = m ((c : Thread nD τ).loc main_arg0))
    (h1 : y1 = m ((c : Thread nD τ).loc main_arg1)) (h2 : y2 = m ((c : Thread nD τ).loc main_arg2))
    (h3 : y3 = m ((c : Thread nD τ).loc main_arg3)) :
    Cert.ReferenceIdeal.Read.val_main_v170 (F := Ideal) y0 y1 y2 y3 = Value.G4 m c := by
  subst h0 h1 h2 h3
  exact adj_eq m c hreal hU

end Own

end
-- ==== Proof.lean ====
/- The proof of the claim: the two frames of the kernel and the frame of the reference, the named constant, and the
   equality of the two results of the idealized kernel and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Results
public import Idealize.ShloMosaic.Adequacy
public import Idealize.ShloMosaic.Init

@[expose] public section

noncomputable section

namespace Cert.Proof

open Idealize.ShloMosaic Idealize.SL.Sem Cert.Kernel

/-- The reference runs and leaves its arguments; it declares no semaphore. -/
theorem referenceFrame : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The named scale is the constant it stands for. -/
theorem preserves : Cert.preserves_Kernel_KernelIdeal :=
  IdealRules.named_const.statement Cert.KernelIdeal.κ "scale" .f32 0x3C4CCCCD#32 ((1 / 80 : ℝ) : EReal) rfl

/-- The idealized kernel's results are the reference's, under the precondition. -/
theorem algebraic : Cert.algebraic_KernelIdeal_ReferenceIdeal_pre_no_tie_at_rank_k (hPre_no_tie_at_rank_k := Own.preFacts) := by
  intro m ρ m' ρ' hpre hagree
  refine ⟨fun c => Cert.KernelIdeal.Value.G4 m c, fun c => Cert.KernelIdeal.Value.G5 m c,
    Cert.KernelIdeal.Value.run (F := Ideal) m ρ, ?_⟩
  refine (θ_run Cert.ReferenceIdeal.defs _ _).mono (fun r h c => ?_) (Cert.ReferenceIdeal.Value.run (F := Ideal) m' ρ')
  obtain ⟨h0, h1, h2⟩ := h c
  obtain ⟨p1, p2⟩ := hpre c
  obtain ⟨a0, a1, a2, a3⟩ := hagree c
  have hreal := Own.real_of_pre _ _ _ _ p1
  have hU : ∀ l b j, Own.Untied (Own.weights (Own.argLogit m c l b) j) := fun l b j => Own.untied_of_pre _ _ _ _ p1 p2 l b j
  have e0 := Own.adj_eq_of m c hreal hU _ _ _ _ a0 a1 a2 a3
  have e1 := Own.logits_eq_of m c hreal hU _ _ _ _ a0 a1 a2 a3
  have r0 := Cert.ReferenceIdeal.Read.val_main_v170_eq (F := Ideal) (StableHlo.launchContents m' c)
  have r1 := Cert.ReferenceIdeal.Read.val_main_v174_eq (F := Ideal) (StableHlo.launchContents m' c)
  exact ⟨h0.trans (r0.trans e0), h1.trans (r1.trans e1), h2⟩

/-- All the claims of this directory. -/
theorem claim : Cert.Claim :=
  ⟨Cert.Kernel.Gen.facts, Cert.KernelIdeal.Gen.facts, Cert.ReferenceIdeal.Gen.facts, Own.preFacts,
    fun m ρ _ => Cert.Kernel.Gen.frame m ρ,
    fun m ρ _ => Cert.KernelIdeal.Gen.frame m ρ,
    fun m ρ _ => Cert.KernelIdeal.Gen.frame m ρ,
    referenceFrame,
    fun m ρ _ => referenceFrame m ρ trivial,
    preserves,
    algebraic⟩

end Cert.Proof

end
